-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_sqrt_two" .f32 0x3F3504F3#32 (((Real.sqrt 2)⁻¹ : ℝ) : EReal)

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S16x2048x3 : Shape := ⟨3, ![16, 2048, 3]⟩
abbrev S3x128 : Shape := ⟨2, ![3, 128]⟩
abbrev S128 : Shape := ⟨1, ![128]⟩
abbrev S128x128 : Shape := ⟨2, ![128, 128]⟩
abbrev S128x3000 : Shape := ⟨2, ![128, 3000]⟩
abbrev S3000 : Shape := ⟨1, ![3000]⟩
abbrev S_ : Shape := ⟨0, ![]⟩

class Facts : Prop where
  bcast_S_S16x2048x3 : S_.BroadcastsInDim S16x2048x3 (![] : Fin 0 → Fin S16x2048x3.rank)

variable [Facts]

def fn {F : FTy → Type} [FloatOps F] (main_arg0 : FVec F S16x2048x3 .f32) (main_arg1 : FVec F S3x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x3000 .f32) (main_arg12 : FVec F S3000 .f32) : IVec S16x2048x3 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  main_v2
-- ==== Kernel.lean ====
abbrev S16x2048x3 : Shape := ⟨3, ![16, 2048, 3]⟩
abbrev S3x128 : Shape := ⟨2, ![3, 128]⟩
abbrev S128 : Shape := ⟨1, ![128]⟩
abbrev S128x128 : Shape := ⟨2, ![128, 128]⟩
abbrev S128x3000 : Shape := ⟨2, ![128, 3000]⟩
abbrev S3000 : Shape := ⟨1, ![3000]⟩
abbrev S32768x3 : Shape := ⟨2, ![32768, 3]⟩
abbrev S1x128 : Shape := ⟨2, ![1, 128]⟩
abbrev S1x3000 : Shape := ⟨2, ![1, 3000]⟩
abbrev S16x128 : Shape := ⟨2, ![16, 128]⟩
abbrev S16x3000 : Shape := ⟨2, ![16, 3000]⟩
abbrev S16x1000x3 : Shape := ⟨3, ![16, 1000, 3]⟩
abbrev S8192x3 : Shape := ⟨2, ![8192, 3]⟩
abbrev S_ : Shape := ⟨0, ![]⟩
abbrev S8192x128 : Shape := ⟨2, ![8192, 128]⟩
abbrev S4x2048x128 : Shape := ⟨3, ![4, 2048, 128]⟩
abbrev S4x128 : Shape := ⟨2, ![4, 128]⟩

abbrev nBuf : Space → Nat
  | .hbm => 23
  | .vmem => 16
  | .smem => 0
  | _ => 0

abbrev bufTy : (tb : Table) → Fin (tcTables nBuf tb) → BufTy
  | .hbm, ⟨0, _⟩ => ⟨S16x2048x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x3000, .f32⟩
  | .hbm, ⟨12, _⟩ => ⟨S3000, .f32⟩
  | .hbm, ⟨13, _⟩ => ⟨S32768x3, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x3000, .f32⟩
  | .hbm, ⟨20, _⟩ => ⟨S16x128, .f32⟩
  | .hbm, ⟨21, _⟩ => ⟨S16x3000, .f32⟩
  | .hbm, ⟨22, _⟩ => ⟨S16x1000x3, .f32⟩
  | .local _ .vmem, ⟨0, _⟩ => ⟨S8192x3, .f32⟩
  | .local _ .vmem, ⟨1, _⟩ => ⟨S8192x3, .f32⟩
  | .local _ .vmem, ⟨2, _⟩ => ⟨S3x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x3000, .f32⟩
  | .local _ .vmem, ⟨13, _⟩ => ⟨S16x128, .f32⟩
  | .local _ .vmem, ⟨14, _⟩ => ⟨S16x3000, .f32⟩
  | .local _ .vmem, ⟨15, _⟩ => ⟨S128x3000, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_v0_1 : Ref sig .tc := ⟨.hbm, 20, rfl⟩
abbrev main_call0_v7_1 : Ref sig .tc := ⟨.hbm, 21, rfl⟩
abbrev main_v0_0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c4_i32_33 : BitVec 32 := 4#32
  let v65 : BitVec 32 := Scalar.muli arg0 c4_i32_33
  let v66 : Index := Scalar.indexCast v65
  let c0_34 : Index := 0#32
  ![v66.toNat, 0]
def k0_cond3 (i : grid0.Coords) : BitVec 1 :=
  let arg0 : BitVec 32 := BitVec.ofNat 32 (i 0).val
  let c4_i32_2 : BitVec 32 := 4#32
  let v6 : BitVec 1 := Scalar.cmpi .eq arg0 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3000 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x3000 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "inv_sqrt_two" => some (((Real.sqrt 2)⁻¹ : ℝ) : EReal)
  | _ => none
-- ==== ReferenceIdeal.lean ====
abbrev S16x2048x3 : Shape := ⟨3, ![16, 2048, 3]⟩
abbrev S3x128 : Shape := ⟨2, ![3, 128]⟩
abbrev S128 : Shape := ⟨1, ![128]⟩
abbrev S128x128 : Shape := ⟨2, ![128, 128]⟩
abbrev S128x3000 : Shape := ⟨2, ![128, 3000]⟩
abbrev S3000 : Shape := ⟨1, ![3000]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S16x2048x8 : Shape := ⟨3, ![16, 2048, 8]⟩
abbrev S16x2048x8x1 : Shape := ⟨4, ![16, 2048, 8, 1]⟩
abbrev S16x2048x8x3 : Shape := ⟨4, ![16, 2048, 8, 3]⟩
abbrev S262144x3 : Shape := ⟨2, ![262144, 3]⟩
abbrev S262144x128 : Shape := ⟨2, ![262144, 128]⟩
abbrev S1x128 : Shape := ⟨2, ![1, 128]⟩
abbrev S16x2048x8x128 : Shape := ⟨4, ![16, 2048, 8, 128]⟩
abbrev S16x2048x128 : Shape := ⟨3, ![16, 2048, 128]⟩
abbrev S16x128 : Shape := ⟨2, ![16, 128]⟩
abbrev S16x3000 : Shape := ⟨2, ![16, 3000]⟩
abbrev S1x3000 : Shape := ⟨2, ![1, 3000]⟩
abbrev S16x1000x3 : Shape := ⟨3, ![16, 1000, 3]⟩

abbrev nBuf : Space → Nat
  | .hbm => 119
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x3000, .f32⟩
  | .hbm, ⟨12, _⟩ => ⟨S3000, .f32⟩
  | .hbm, ⟨13, _⟩ => ⟨S16x2048x3, .f32⟩
  | .hbm, ⟨14, _⟩ => ⟨S_, .f32⟩
  | .hbm, ⟨15, _⟩ => ⟨S16x2048, .f32⟩
  | .hbm, ⟨16, _⟩ => ⟨S16x2048x2048, .f32⟩
  | .hbm, ⟨17, _⟩ => ⟨S16x2048x1, .f32⟩
  | .hbm, ⟨18, _⟩ => ⟨S16x1x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x8, .f32⟩
  | .hbm, ⟨28, _⟩ => ⟨S16x2048x8, .i32⟩
  | .hbm, ⟨29, _⟩ => ⟨S_, .i32⟩
  | .hbm, ⟨30, _⟩ => ⟨S16x2048x8, .i32⟩
  | .hbm, ⟨31, _⟩ => ⟨S16x2048x8, .i1⟩
  | .hbm, ⟨32, _⟩ => ⟨S_, .i32⟩
  | .hbm, ⟨33, _⟩ => ⟨S16x2048x8, .i32⟩
  | .hbm, ⟨34, _⟩ => ⟨S16x2048x8, .i32⟩
  | .hbm, ⟨35, _⟩ => ⟨S16x2048x8, .i32⟩
  | .hbm, ⟨36, _⟩ => ⟨S16x2048x8x1, .i32⟩
  | .hbm, ⟨37, _⟩ => ⟨S16x2048x8x3, .f32⟩
  | .hbm, ⟨38, _⟩ => ⟨S262144x3, .f32⟩
  | .hbm, ⟨39, _⟩ => ⟨S262144x128, .f32⟩
  | .hbm, ⟨40, _⟩ => ⟨S1x128, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S_, .f32⟩
  | .hbm, ⟨48, _⟩ => ⟨S_, .f32⟩
  | .hbm, ⟨49, _⟩ => ⟨S262144x128, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S262144x128, .f32⟩
  | .hbm, ⟨54, _⟩ => ⟨S1x128, .f32⟩
  | .hbm, ⟨55, _⟩ => ⟨S262144x128, .f32⟩
  | .hbm, ⟨56, _⟩ => ⟨S262144x128, .f32⟩
  | .hbm, ⟨57, _⟩ => ⟨S_, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S_, .f32⟩
  | .hbm, ⟨62, _⟩ => ⟨S_, .f32⟩
  | .hbm, ⟨63, _⟩ => ⟨S262144x128, .f32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S262144x128, .f32⟩
  | .hbm, ⟨68, _⟩ => ⟨S1x128, .f32⟩
  | .hbm, ⟨69, _⟩ => ⟨S262144x128, .f32⟩
  | .hbm, ⟨70, _⟩ => ⟨S262144x128, .f32⟩
  | .hbm, ⟨71, _⟩ => ⟨S_, .f32⟩
  | .hbm, ⟨72, _⟩ => ⟨S262144x128, .f32⟩
  | .hbm, ⟨73, _⟩ => ⟨S262144x128, .f32⟩
  | .hbm, ⟨74, _⟩ => ⟨S262144x128, .f32⟩
  | .hbm, ⟨75, _⟩ => ⟨S_, .f32⟩
  | .hbm, ⟨76, _⟩ => ⟨S_, .f32⟩
  | .hbm, ⟨77, _⟩ => ⟨S262144x128, .f32⟩
  | .hbm, ⟨78, _⟩ => ⟨S262144x128, .f32⟩
  | .hbm, ⟨79, _⟩ => ⟨S262144x128, .f32⟩
  | .hbm, ⟨80, _⟩ => ⟨S262144x128, .f32⟩
  | .hbm, ⟨81, _⟩ => ⟨S16x2048x8x128, .f32⟩
  | .hbm, ⟨82, _⟩ => ⟨S_, .f32⟩
  | .hbm, ⟨83, _⟩ => ⟨S16x2048x128, .f32⟩
  | .hbm, ⟨84, _⟩ => ⟨S_, .f32⟩
  | .hbm, ⟨85, _⟩ => ⟨S16x128, .f32⟩
  | .hbm, ⟨86, _⟩ => ⟨S16x128, .f32⟩
  | .hbm, ⟨87, _⟩ => ⟨S1x128, .f32⟩
  | .hbm, ⟨88, _⟩ => ⟨S16x128, .f32⟩
  | .hbm, ⟨89, _⟩ => ⟨S16x128, .f32⟩
  | .hbm, ⟨90, _⟩ => ⟨S_, .f32⟩
  | .hbm, ⟨91, _⟩ => ⟨S16x128, .f32⟩
  | .hbm, ⟨92, _⟩ => ⟨S16x128, .f32⟩
  | .hbm, ⟨93, _⟩ => ⟨S16x128, .f32⟩
  | .hbm, ⟨94, _⟩ => ⟨S_, .f32⟩
  | .hbm, ⟨95, _⟩ => ⟨S_, .f32⟩
  | .hbm, ⟨96, _⟩ => ⟨S16x128, .f32⟩
  | .hbm, ⟨97, _⟩ => ⟨S16x128, .f32⟩
  | .hbm, ⟨98, _⟩ => ⟨S16x128, .f32⟩
  | .hbm, ⟨99, _⟩ => ⟨S16x128, .f32⟩
  | .hbm, ⟨100, _⟩ => ⟨S16x128, .f32⟩
  | .hbm, ⟨101, _⟩ => ⟨S1x128, .f32⟩
  | .hbm, ⟨102, _⟩ => ⟨S16x128, .f32⟩
  | .hbm, ⟨103, _⟩ => ⟨S16x128, .f32⟩
  | .hbm, ⟨104, _⟩ => ⟨S_, .f32⟩
  | .hbm, ⟨105, _⟩ => ⟨S16x128, .f32⟩
  | .hbm, ⟨106, _⟩ => ⟨S16x128, .f32⟩
  | .hbm, ⟨107, _⟩ => ⟨S16x128, .f32⟩
  | .hbm, ⟨108, _⟩ => ⟨S_, .f32⟩
  | .hbm, ⟨109, _⟩ => ⟨S_, .f32⟩
  | .hbm, ⟨110, _⟩ => ⟨S16x128, .f32⟩
  | .hbm, ⟨111, _⟩ => ⟨S16x128, .f32⟩
  | .hbm, ⟨112, _⟩ => ⟨S16x128, .f32⟩
  | .hbm, ⟨113, _⟩ => ⟨S16x128, .f32⟩
  | .hbm, ⟨114, _⟩ => ⟨S16x3000, .f32⟩
  | .hbm, ⟨115, _⟩ => ⟨S1x3000, .f32⟩
  | .hbm, ⟨116, _⟩ => ⟨S16x3000, .f32⟩
  | .hbm, ⟨117, _⟩ => ⟨S16x3000, .f32⟩
  | .hbm, ⟨118, _⟩ => ⟨S16x1000x3, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_values : Ref sig .tc := ⟨.hbm, 27, rfl⟩
abbrev main_indices : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== Proof.Around.lean ====
/-
  The run of a one-region program whose pipeline is described by relations and whose kernel moves an unscoped buffer itself.

  The library's runs give either named contents of every output (exact proof data), or relational proof data with nothing said of
  what the host lines after the region write. Here both are needed: one output is assembled a few rows at a time, so that its buffer
  cannot be named before its last row is written, and a host line reads another output after the region. The post says that some
  contents `A` the arrays may hold after the last write-back explain every other buffer.
-/
module

public import Idealize.ShloMosaic.Lib.Pipeline.FrameSuffixR

@[expose] public section

noncomputable section

namespace Cert.Around

open Idealize.ShloMosaic Idealize.ShloMosaic.TcCoe Idealize.ShloMosaic.Pipeline Idealize.ShloMosaic.Rounds
open Idealize.SL
open Idealize.SL.BI (sProp bigSep bigSep_congr)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P] [DecidableEq P] [∀ e, Nonempty (Val e)]
variable {K : Type} [Fintype K]

local notation "𝕄" => MT nD τ sig Unit Val ℕ (UD sig nD τ) ℕ

variable (cfgs : P → Cfg sig Λ₀) (p : P) (kit : LaunchFacts (nD := nD) (τ := τ) cfgs p)
  (rdats : (p : P) → (c : Dev nD) → RDat τ Val Unit ℕ (UD sig nD τ) ℕ (cfgs p) c)
  (osem : K → SemLoc sig) (defs₀ : Defs nD τ sig Val Λ₀) (𝒱₀ : Variants)

/-- What the run leaves: each array at some contents it may hold after every write-back, and every bypassing buffer as the lines
    after the region leave it over such contents. -/
def Post (V₀ : Dev nD → Valuation τ sig Val) (opss : List (List (HloOp τ sig Val))) (r : PUnit × MemSt nD τ sig Val) : Prop :=
  ∀ c : Dev nD, (∀ w, (rdats p c).ArrAt w (cfgs p).N (r.2.mem (((cfgs p).spec w).arr.view.loc (c.tc : Thread nD τ))))
    ∧ ∃ A : (w : Fin (cfgs p).W) → Buf Val (((cfgs p).spec w).arr.view.loc (c.tc : Thread nD τ)),
        (∀ w, (rdats p c).ArrAt w (cfgs p).N (A w))
        ∧ ∀ b ∈ restRefs sig (cfgs p).spec, r.2.mem ((c.tc : Thread nD τ).loc b)
            = StableHlo.after opss.flatten (withArrays (cfgs p).spec c (V₀ c) A) (Proc.devRef .tc b)

omit [Fintype P] [DecidableEq P] in
/-- The arrays after the last point, opened: at some contents each may hold. -/
theorem arraysAt_open (c : Dev nD) (rd : RDat τ Val Unit ℕ (UD sig nD τ) ℕ (cfgs p) c) :
    (rd.arraysAt (cfgs p).N : sProp 𝕄) ⊢ iprop(∃ A, ⌜∀ w, rd.ArrAt w (cfgs p).N (A w)⌝ ∗ rd.arrays A) := by
  unfold RDat.arraysAt RDat.arrays
  iintro Ha
  ihave Hb := (BI.bigSep_exists_pi Finset.univ (fun w F => iprop(⌜rd.ArrAt w (cfgs p).N F⌝
    ∗ ((cfgs p).win w).arr.view.loc (c.tc : Thread nD τ) ↦[((cfgs p).win w).arr.view.set]{rd.share w} F))) $$ Ha
  icases Hb with ⟨%A, Ha⟩
  ihave Hb := (BI.bigSep_pure_sep Finset.univ (fun w => rd.ArrAt w (cfgs p).N (A w))
    (fun w => ((cfgs p).win w).arr.view.loc (c.tc : Thread nD τ) ↦[((cfgs p).win w).arr.view.set]{rd.share w} A w)) $$ Ha
  icases Hb with ⟨%hA, Ha⟩
  iexists A
  isplitr
  · ipureintro; exact fun w => hA w (Finset.mem_univ w)
  · iexact Ha

omit [Fintype P] [DecidableEq P] [∀ e, Nonempty (Val e)] in
/-- And closed: arrays at contents each may hold. -/
theorem arraysAt_close (c : Dev nD) (rd : RDat τ Val Unit ℕ (UD sig nD τ) ℕ (cfgs p) c)
    (A : (w : Fin (cfgs p).W) → Buf Val (((cfgs p).spec w).arr.view.loc (c.tc : Thread nD τ))) (hA : ∀ w, rd.ArrAt w (cfgs p).N (A w)) :
    (rd.arrays A : sProp 𝕄) ⊢ rd.arraysAt (cfgs p).N := by
  unfold RDat.arraysAt RDat.arrays
  refine BI.bigSep_mono fun w _ => ?_
  show (((cfgs p).win w).arr.view.loc (c.tc : Thread nD τ) ↦[((cfgs p).win w).arr.view.set]{rd.share w} A w : sProp 𝕄)
    ⊢ iprop(∃ F, ⌜rd.ArrAt w (cfgs p).N F⌝ ∗ ((cfgs p).win w).arr.view.loc (c.tc : Thread nD τ) ↦[((cfgs p).win w).arr.view.set]{rd.share w} F)
  iintro H; iexists (A w)
  isplitr
  · ipureintro; exact hA w
  · iexact H

include kit in
set_option backward.isDefEq.respectTransparency.types false in
/-- The run, over relational proof data, of a kernel that reads the unscoped buffers `H` by transfers of its own, started and waited
    for at any points; the lines after the region stay off `H` and write no array. -/
theorem run (ho : OwnSemFacts (cfgs p).spec osem) (H : Finset (Ref sig .tc)) (hH : H ⊆ restRefs sig (cfgs p).spec)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdats p c).BodyObligation defs₀ 𝒱₀ () Set.univ)
    (hshare : ∀ c w, (rdats p c).share w = fullShare) (howed : ∀ c t, (rdats p c).owed t = 0)
    (V₀ : Dev nD → Valuation τ sig Val) (opss : List (List (HloOp τ sig Val)))
    (hsub : ∀ ops ∈ opss, ∀ op ∈ ops, op.bufs ⊆ tailRefsBut sig Prefetch.none (cfgs p).spec H)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UD sig nD τ) (Lvl := ℕ) cfgs p defs₀ 𝒱₀ m main
      (fun c b => V₀ c (Proc.devRef .tc b)) (fun _ => chain (opss.map StableHlo.seq)))
    (hA : ∀ c w, (rdats p c).A w = V₀ c (Proc.devRef .tc (arrRef (cfgs p).spec w)))
    (hin : ∀ c, ΦD osem (cfgs p).spec H (fun c b => V₀ c (Proc.devRef .tc b)) c ⊢ (rdats p c).Φ 0)
    (hout : ∀ c, (rdats p c).Φ (Fin.last (cfgs p).N) ⊢ ΦD osem (cfgs p).spec H (fun c b => V₀ c (Proc.devRef .tc b)) c) :
    θ_run (Pipeline.defs (fun q => (cfgs q).toPCfg (Val := Val)) defs₀) (onTc main) (s₀ m g) (fun r => Post cfgs p rdats V₀ opss r ∧ r.2.sem = fun _ => 0) := by
  classical
  have kit₀ := kit.toP (Val := Val)
  have hHP : H ⊆ restRefsP sig Prefetch.none (cfgs p).spec :=
    fun b hb => Finset.mem_sdiff.mpr ⟨hH hb, fun h => (Finset.mem_image.mp h).elim fun k _ => k.elim0⟩
  -- a buffer of `H` is no array and no line writes it
  have hHkeep : ∀ (c : Dev nD) (A : (w : Fin (cfgs p).W) → Buf Val (((cfgs p).spec w).arr.view.loc (c.tc : Thread nD τ))), ∀ b ∈ H,
      StableHlo.after opss.flatten (withArrays (cfgs p).spec c (V₀ c) A) (Proc.devRef .tc b) = V₀ c (Proc.devRef .tc b) := by
    intro c A b hb
    have harr : ∀ w, arrRef (cfgs p).spec w ≠ b := fun w e =>
      (Finset.mem_sdiff.mp (hH hb)).2 (Finset.mem_image.mpr ⟨w, Finset.mem_univ _, e⟩)
    rw [StableHlo.after_of_forall_not_mem _ _ fun op hop hw => ?_, withArrays_of_ne _ c (V₀ c) _ b harr]
    obtain ⟨ops, hops, hop'⟩ := List.mem_flatten.mp hop
    have hm := hsub ops hops op hop' (op.writes_sub hw)
    unfold tailRefsBut at hm
    obtain ⟨b', hb', e⟩ := Finset.mem_map.mp hm
    obtain rfl : b' = b := Proc.devRef_injective _ e
    rcases Finset.mem_union.mp hb' with h | h
    · obtain ⟨w, -, e⟩ := Finset.mem_image.mp h
      exact harr w e
    · exact (Finset.mem_sdiff.mp h).2 hb
  refine RDat.θ_run_region_pf_tail_quiescent (fun q => (cfgs q).toPCfg (Val := Val)) (fun q => (cfgs q).toPCfg_adm) rdats () (kit₀.to₀.cellOf_inj (fun q => (cfgs q).toPCfg_adm)) p kit₀.to₀.win ho kit₀.to₀.pre embL defs₀ 𝒱₀ m g main
    (fun _ => chain (opss.map StableHlo.seq)) hbody
    kit₀.to₀.block_pos kit₀.to₀.arr_whole kit₀.to₀.stage_whole howed
    (G := fun _ => iprop(emp)) (u₀ := (initOf (cells (pin (fun q => (cfgs q).toPCfg (Val := Val)) (fun q => (cfgs q).toPCfg_adm)) (kit₀.to₀.cellOf_inj (fun q => (cfgs q).toPCfg_adm))) (launchToks (pin (fun q => (cfgs q).toPCfg (Val := Val)) (fun q => (cfgs q).toPCfg_adm)) (kit₀.to₀.cellOf_inj (fun q => (cfgs q).toPCfg_adm))), 1))
    (hu₀ := ?_) (V := fun c b => V₀ c (Proc.devRef .tc b)) (hmain := hmain)
    (hsplit := ?_) (hpf := fun _ k => k.elim0)
    (X := fun c => iprop((∃ r, prngReg c r) ∗ ownSems0 (Ix := Unit) (Name := ℕ) (U := UD sig nD τ) (Lvl := ℕ) (Val := Val) (τ := τ) osem c
      ∗ bigSep H fun b => ((c.tc : Thread nD τ).loc b) ↦{fullShare} V₀ c (Proc.devRef .tc b)))
    (Y := fun c => iprop((∃ r, prngReg c r) ∗ bigSep H fun b => ((c.tc : Thread nD τ).loc b) ↦{fullShare} V₀ c (Proc.devRef .tc b)))
    (Z := fun c => bigSep (restRefsP sig Prefetch.none (cfgs p).spec \ H) fun b => ((c.tc : Thread nD τ).loc b) ↦{fullShare} V₀ c (Proc.devRef .tc b))
    (Z' := fun c => iprop(∃ A : (w : Fin (cfgs p).W) → Buf Val (((cfgs p).spec w).arr.view.loc (c.tc : Thread nD τ)),
      ⌜∀ w, (rdats p c).ArrAt w (cfgs p).N (A w)⌝ ∗ bigSep (restRefsP sig Prefetch.none (cfgs p).spec \ H) fun b =>
        ((c.tc : Thread nD τ).loc b) ↦{fullShare} StableHlo.after opss.flatten (withArrays (cfgs p).spec c (V₀ c) A) (Proc.devRef .tc b)))
    (hX := ?_) (hin := ?_) (hout := ?_) (htail := ?_)
    (QY := fun c s => ∃ A : (w : Fin (cfgs p).W) → Buf Val (((cfgs p).spec w).arr.view.loc (c.tc : Thread nD τ)),
      (∀ w, (rdats p c).ArrAt w (cfgs p).N (A w)) ∧ ∀ b ∈ restRefsP sig Prefetch.none (cfgs p).spec, s.mem ((c.tc : Thread nD τ).loc b)
        = StableHlo.after opss.flatten (withArrays (cfgs p).spec c (V₀ c) A) (Proc.devRef .tc b))
    (hY := ?_) (hQ := ?_)
  · iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · exact fun c => RDat.arrays_split (fun q => (cfgs q).toPCfg (Val := Val)) (fun q => (cfgs q).toPCfg_adm) rdats p kit.win.arr_inj c kit₀.to₀.arr_whole (hshare c) _ _ fun w => hA c w
  · intro c
    iintro ⟨HU, Ho, -, Hp, -⟩; imodintro
    ihave HU' := (Entails.of_eq (unscopedRestP_sdiff Prefetch.none (cfgs p).spec H hHP c fun b => V₀ c (Proc.devRef .tc b))) $$ HU
    icases HU' with ⟨HH, HR⟩
    isplitr [HR]
    · isplitl [Hp]; · iexists _; iexact Hp
      isplitl [Ho]; · iexact Ho
      iexact HH
    · iexact HR
  · intro c
    refine Entails.trans ?_ (hin c)
    rw [ΦD_eq]; iintro ⟨⟨Hp, Ho, HH⟩, -, Hr⟩
    isplitl [Hr]; · iexact Hr
    isplitl [Hp]; · iexact Hp
    isplitl [Ho]; · iexact Ho
    iexact HH
  · intro c
    refine (hout c).trans ?_
    rw [ΦD_eq]
    iintro ⟨Hr, Hp, Ho, HH⟩
    isplitl [Hp HH]
    · isplitl [Hp]; · iexact Hp
      iexact HH
    isplitl [Ho]; · iexact Ho
    iexact Hr
  · intro c Q'
    iintro ⟨Hk, Hb, Ha, HZ⟩
    ihave Ha' := (arraysAt_open cfgs p c (rdats p c)) $$ Ha
    icases Ha' with ⟨%A, %hA', Ha⟩
    have hB : ((rdats p c).arrays A : sProp 𝕄)
        = arrBufs (cfgs p).spec c (fun b => withArrays (cfgs p).spec c (V₀ c) A (Proc.devRef .tc b)) :=
      ((rdats p c).arrBufs_eq_arrays kit₀.to₀.sharedIn kit₀.to₀.arr_whole ((rdats p c).q_eq_shareOf_of_share_full kit.win.arr_inj (hshare c)) _ A fun w =>
        (withArrays_arr (cfgs p).spec kit.win.arr_inj c (V₀ c) A w).symm).symm
    ihave Ha1 := (Entails.of_eq hB) $$ Ha
    iapply (tail_seqs_but_bufs_b (fun q => (cfgs q).toPCfg (Val := Val)) defs₀ 𝒱₀ Prefetch.none (cfgs p).spec H c (V₀ c) A opss hsub hfresh hkeep Q')
    isplitl [Hk]
    · iintro ⟨Hb, Ha, HZ⟩
      iapply Hk
      isplitl [Hb]; · iexact Hb
      isplitl [Ha]
      · iapply (arraysAt_close cfgs p c (rdats p c) A hA'); iapply (Entails.of_eq hB.symm); iexact Ha
      iexists A
      isplitr; · ipureintro; exact hA'
      iexact HZ
    isplitl [Hb]; · iexact Hb
    isplitl [Ha1]; · iexact Ha1
    iexact HZ
  · intro c s'
    iintro ⟨⟨-, HH⟩, ⟨%A, %hA', HR⟩, HSI⟩
    ihave HH' := (Entails.of_eq (show (iprop(bigSep H fun b => ((c.tc : Thread nD τ).loc b) ↦{fullShare} V₀ c (Proc.devRef .tc b)) : sProp 𝕄)
      = iprop(bigSep H fun b => ((c.tc : Thread nD τ).loc b) ↦{fullShare} StableHlo.after opss.flatten (withArrays (cfgs p).spec c (V₀ c) A) (Proc.devRef .tc b))
      from bigSep_congr fun b hb => by rw [hHkeep c A b hb])) $$ HH
    ihave HU := (Entails.of_eq (unscopedRestP_sdiff Prefetch.none (cfgs p).spec H hHP c
      fun b => StableHlo.after opss.flatten (withArrays (cfgs p).spec c (V₀ c) A) (Proc.devRef .tc b)).symm) $$ [HH' HR]
    · isplitl [HH']; · iexact HH'
      iexact HR
    unfold unscopedRestP
    ihave HZ' := (pointsTo_read_all (restRefsP sig Prefetch.none (cfgs p).spec) (fun b => (c.tc : Thread nD τ).loc b)
      (fun b => StableHlo.after opss.flatten (withArrays (cfgs p).spec c (V₀ c) A) (Proc.devRef .tc b)) s') $$ [HU HSI]
    · isplitl [HU] <;> iassumption
    icases HZ' with ⟨%hZ, HSI⟩
    imodintro
    isplitr
    · ipureintro; exact ⟨A, hA', hZ⟩
    · iexact HSI
  · intro s h hz
    refine ⟨fun c => ⟨(h c).1, ?_⟩, hz⟩
    obtain ⟨A, hA', hZ⟩ := (h c).2.2
    refine ⟨A, hA', fun b hb => hZ b (Finset.mem_sdiff.mpr ⟨hb, fun h => (Finset.mem_image.mp h).elim fun k _ => k.elim0⟩)⟩

end Cert.Around
-- ==== Proof.BodyIdeal.lean ====
module

public import proofs.«01_k».proof.Proof.Around
public import proofs.«01_k».proof.Proof.Gen.KernelIdeal.Skeleton
public import proofs.«01_k».proof.Proof.Gen.KernelIdeal.Frame
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp
public import Idealize.ShloMosaic.Lib.VecWindow
public import Mathlib.Tactic.IntervalCases

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F] [Named F]

local notation "𝕄" => MT nD τ sig Unit (Elt F) ℕ (Pipeline.UD sig nD τ) ℕ

/-- The scratch buffer and the weight left in HBM. -/
abbrev scM : Memref sig .tc .vmem S128x3000 .f32 := Memref.whole cc0_scratch0
abbrev hbM : Memref sig .tc .hbm S128x3000 .f32 := Memref.whole main_arg11
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- A middle point of the grid: the encoder's four rows are written and nothing else changes. -/
theorem run_enc (c : Dev nD) (i : grid0.Coords) (hi0 : (i 0).val ≠ 0) (hi : (i 0).val < 4)
    (arg1 : Memref sig .tc .vmem S8192x3 .f32) (harg1 : arg1.IsWhole)
    (arg2 : Memref sig .tc .vmem S3x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S128x128 .f32) (harg8 : arg8.IsWhole)
    (arg9 : Memref sig .tc .vmem S1x128 .f32) (harg9 : arg9.IsWhole)
    (arg10 : Memref sig .tc .vmem S128x128 .f32) (harg10 : arg10.IsWhole)
    (arg11 : Memref sig .tc .vmem S1x128 .f32) (harg11 : arg11.IsWhole)
    (arg13 : Memref sig .tc .vmem S1x3000 .f32) (harg13 : arg13.IsWhole)
    (arg14 : Memref sig .tc .vmem S16x128 .f32) (harg14 : arg14.IsWhole)
    (arg15 : Memref sig .tc .vmem S16x3000 .f32) (harg15 : arg15.IsWhole)
    (X1 : Vec F S8192x3 .f32) (X2 : Vec F S3x128 .f32) (X3 : Vec F S1x128 .f32) (X4 : Vec F S128x128 .f32) (X5 : Vec F S1x128 .f32) (X6 : Vec F S128x128 .f32) (X7 : Vec F S1x128 .f32) (Y : Vec F S16x128 .f32) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg14 fullShare Y
      ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg14 fullShare (VecWindow.put Y (k0_off1 i) S4x128.size (k0_pay1 (k0_pay2 X1 X2 X3 X4 X5 X6 X7)))) -∗ K ⟨⟩))
    ⊢ wp frame (wpE (defs₀ (F := F)) Variants.none c none) Set.univ
      (cc0__body i arg1 harg1 arg2 harg2 arg3 harg3 arg4 harg4 arg5 harg5 arg6 harg6 arg7 harg7 arg8 harg8 arg9 harg9 arg10 harg10 arg11 harg11 hbM (Memref.isWhole_whole _) arg13 harg13 arg14 harg14 arg15 harg15 scM (Memref.isWhole_whole _) cc0_scratch1) K := by
  have hc1 : Scalar.cmpi .ne (Scalar.extui (Scalar.cmpi .eq (BitVec.ofNat 32 (i 0).val) 0#32) : BitVec 32) 0#32 ≠ 1#1 := by
    generalize (i 0).val = n at hi0 hi
    interval_cases n <;> first | exact absurd rfl hi0 | decide
  have hc2 : k0_cond2 i = 1#1 := by
    unfold k0_cond2
    generalize (i 0).val = n at hi0 hi
    interval_cases n <;> first | exact absurd rfl hi0 | decide
  have hc3 : k0_cond3 i ≠ 1#1 := by
    unfold k0_cond3
    generalize (i 0).val = n at hi0 hi
    interval_cases n <;> first | exact absurd rfl hi0 | decide
  simp only [cc0__body_eq_skeleton]; unfold cc0__body_skel
  simp only [k0_part1_eq_skeleton]; unfold k0_part1_skel
  simp only [dif_neg hc1, dif_pos hc2, dif_neg hc3]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f14, %h14, H14⟩, Hk⟩
  sl_exec
  sl_step
  iapply Hk
  isplitl [H1]
  · iexists f1
    isplitr [H1]
    · ipureintro; exact h1
    · iexact H1
  isplitl [H2]
  · iexists f2
    isplitr [H2]
    · ipureintro; exact h2
    · iexact H2
  isplitl [H3]
  · iexists f3
    isplitr [H3]
    · ipureintro; exact h3
    · iexact H3
  isplitl [H4]
  · iexists f4
    isplitr [H4]
    · ipureintro; exact h4
    · iexact H4
  isplitl [H5]
  · iexists f5
    isplitr [H5]
    · ipureintro; exact h5
    · iexact H5
  isplitl [H6]
  · iexists f6
    isplitr [H6]
    · ipureintro; exact h6
    · iexact H6
  isplitl [H7]
  · iexists f7
    isplitr [H7]
    · ipureintro; exact h7
    · iexact H7
  iexists _
  isplitr [H14]
  swap
  · iexact H14
  ipureintro
  rw [View.read_writes_cons_put _ _ _ _ _ rfl]
  simp only [View.writes_nil, h14]
  refine congrArg (fun p => VecWindow.put Y (k0_off1 i) S4x128.size (k0_pay1 p)) ?_
  rw [View.readAt_full arg1.view f1, View.readAt_full arg2.view f2, View.readAt_full arg3.view f3, View.readAt_full arg4.view f4, View.readAt_full arg5.view f5, View.readAt_full arg6.view f6, View.readAt_full arg7.view f7, h1, h2, h3, h4, h5, h6, h7]

/-- The copy of the last decoder weight that the first point starts and the last one waits for: its flight, which gives back the scratch buffer holding the
weight and the weight itself, and what else of the weight's buffer there is. -/
def Fly (c : Dev nD) (f : HbBuf (F := F) c hbM) : sProp 𝕄 :=
  iprop(∃ h : HbBuf (F := F) c scM, ⌜scM.view.read (Elt F) h = hbM.view.read (Elt F) f⌝
    ∗ Transfers.Flight (countersEmb (U := Pipeline.UD sig nD τ)) (c : Thread nD τ) (SemLoc.dma 15) () 49152
        iprop(hbPt c scM h ∗ (hbM.view.loc (c : Thread nD τ) ↦[hbM.view.set]{fullShare} f))
    ∗ (hbM.view.loc (c : Thread nD τ) ↦[Finset.univ \ hbM.view.set]{fullShare} f))

/-- The first point of the grid: the weight's copy is started and the encoder's first four rows are written. -/
theorem run_first (c : Dev nD) (i : grid0.Coords) (hi : (i 0).val = 0)
    (arg1 : Memref sig .tc .vmem S8192x3 .f32) (harg1 : arg1.IsWhole)
    (arg2 : Memref sig .tc .vmem S3x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S128x128 .f32) (harg8 : arg8.IsWhole)
    (arg9 : Memref sig .tc .vmem S1x128 .f32) (harg9 : arg9.IsWhole)
    (arg10 : Memref sig .tc .vmem S128x128 .f32) (harg10 : arg10.IsWhole)
    (arg11 : Memref sig .tc .vmem S1x128 .f32) (harg11 : arg11.IsWhole)
    (arg13 : Memref sig .tc .vmem S1x3000 .f32) (harg13 : arg13.IsWhole)
    (arg14 : Memref sig .tc .vmem S16x128 .f32) (harg14 : arg14.IsWhole)
    (arg15 : Memref sig .tc .vmem S16x3000 .f32) (harg15 : arg15.IsWhole)
    (X1 : Vec F S8192x3 .f32) (X2 : Vec F S3x128 .f32) (X3 : Vec F S1x128 .f32) (X4 : Vec F S128x128 .f32) (X5 : Vec F S1x128 .f32) (X6 : Vec F S128x128 .f32) (X7 : Vec F S1x128 .f32) (Y : Vec F S16x128 .f32) (f : HbBuf (F := F) c hbM) (g : HbBuf (F := F) c scM) (K : PUnit → sProp 𝕄) :
    iprop((∃ W, owes (c : Thread nD τ) 0 W) ∗ hbPt c scM g ∗ semVal ((c : Thread nD τ), SemLoc.dma 15) 0 ∗ hbPt c hbM f ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg14 fullShare Y
      ∗ (iprop((∃ W, owes (c : Thread nD τ) 0 W) ∗ Fly c f ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg14 fullShare (VecWindow.put Y (k0_off1 i) S4x128.size (k0_pay1 (k0_pay2 X1 X2 X3 X4 X5 X6 X7)))) -∗ K ⟨⟩))
    ⊢ wp frame (wpE (defs₀ (F := F)) Variants.none c none) Set.univ
      (cc0__body i arg1 harg1 arg2 harg2 arg3 harg3 arg4 harg4 arg5 harg5 arg6 harg6 arg7 harg7 arg8 harg8 arg9 harg9 arg10 harg10 arg11 harg11 hbM (Memref.isWhole_whole _) arg13 harg13 arg14 harg14 arg15 harg15 scM (Memref.isWhole_whole _) cc0_scratch1) K := by
  have hc1 : Scalar.cmpi .ne (Scalar.extui (Scalar.cmpi .eq (BitVec.ofNat 32 (i 0).val) 0#32) : BitVec 32) 0#32 = 1#1 := by
    rw [hi]; decide
  have hc2 : k0_cond2 i = 1#1 := by
    unfold k0_cond2; rw [hi]; decide
  have hc3 : k0_cond3 i ≠ 1#1 := by
    unfold k0_cond3; rw [hi]; decide
  simp only [cc0__body_eq_skeleton]; unfold cc0__body_skel
  simp only [k0_part1_eq_skeleton]; unfold k0_part1_skel
  simp only [dif_pos hc1, dif_pos hc2, dif_neg hc3]
  unfold owns
  iintro ⟨⟨%W, Ho⟩, Hs, Hg, Hb, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f14, %h14, H14⟩, Hk⟩
  sl_exec
  sl_step
  iapply Hk
  unfold Fly
  isplitl [Ho]
  · iexists _
    iexact Ho
  isplitl [Hg Hb]
  · iexists _
    isplitr [Hg Hb]
    swap
    · isplitl [Hg]
      · iexact Hg
      · iexact Hb
    ipureintro
    rw [View.read_write_univ]
    rfl
  isplitl [H1]
  · iexists f1
    isplitr [H1]
    · ipureintro; exact h1
    · iexact H1
  isplitl [H2]
  · iexists f2
    isplitr [H2]
    · ipureintro; exact h2
    · iexact H2
  isplitl [H3]
  · iexists f3
    isplitr [H3]
    · ipureintro; exact h3
    · iexact H3
  isplitl [H4]
  · iexists f4
    isplitr [H4]
    · ipureintro; exact h4
    · iexact H4
  isplitl [H5]
  · iexists f5
    isplitr [H5]
    · ipureintro; exact h5
    · iexact H5
  isplitl [H6]
  · iexists f6
    isplitr [H6]
    · ipureintro; exact h6
    · iexact H6
  isplitl [H7]
  · iexists f7
    isplitr [H7]
    · ipureintro; exact h7
    · iexact H7
  iexists _
  isplitr [H14]
  swap
  · iexact H14
  ipureintro
  rw [View.read_writes_cons_put _ _ _ _ _ rfl]
  simp only [View.writes_nil, h14]
  refine congrArg (fun p => VecWindow.put Y (k0_off1 i) S4x128.size (k0_pay1 p)) ?_
  rw [View.readAt_full arg1.view f1, View.readAt_full arg2.view f2, View.readAt_full arg3.view f3, View.readAt_full arg4.view f4, View.readAt_full arg5.view f5, View.readAt_full arg6.view f6, View.readAt_full arg7.view f7, h1, h2, h3, h4, h5, h6, h7]

/-- The last point of the grid: the weight's copy is waited for and the decoder's result is written. -/
theorem run_last (c : Dev nD) (i : grid0.Coords) (hi : (i 0).val = 4)
    (arg1 : Memref sig .tc .vmem S8192x3 .f32) (harg1 : arg1.IsWhole)
    (arg2 : Memref sig .tc .vmem S3x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S128x128 .f32) (harg8 : arg8.IsWhole)
    (arg9 : Memref sig .tc .vmem S1x128 .f32) (harg9 : arg9.IsWhole)
    (arg10 : Memref sig .tc .vmem S128x128 .f32) (harg10 : arg10.IsWhole)
    (arg11 : Memref sig .tc .vmem S1x128 .f32) (harg11 : arg11.IsWhole)
    (arg13 : Memref sig .tc .vmem S1x3000 .f32) (harg13 : arg13.IsWhole)
    (arg14 : Memref sig .tc .vmem S16x128 .f32) (harg14 : arg14.IsWhole)
    (arg15 : Memref sig .tc .vmem S16x3000 .f32) (harg15 : arg15.IsWhole)
    (X8 : Vec F S128x128 .f32) (X9 : Vec F S1x128 .f32) (X10 : Vec F S128x128 .f32) (X11 : Vec F S1x128 .f32) (X13 : Vec F S1x3000 .f32) (X14 : Vec F S16x128 .f32) (Y : Vec F S16x3000 .f32) (f : HbBuf (F := F) c hbM) (K : PUnit → sProp 𝕄) :
    iprop((∃ W, owes (c : Thread nD τ) 0 W) ∗ Fly c f ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg13 fullShare X13 ∗ owns (c : Thread nD τ) arg14 fullShare X14 ∗ owns (c : Thread nD τ) arg15 fullShare Y
      ∗ (iprop((∃ W, owes (c : Thread nD τ) 0 W) ∗ (∃ g, hbPt (F := F) c scM g) ∗ semVal ((c : Thread nD τ), SemLoc.dma 15) 0 ∗ hbPt c hbM f ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg13 fullShare X13 ∗ owns (c : Thread nD τ) arg14 fullShare X14 ∗ owns (c : Thread nD τ) arg15 fullShare (k0_pay3 X14 X8 X9 X10 X11 (hbM.view.read (Elt F) f) X13)) -∗ K ⟨⟩))
    ⊢ wp frame (wpE (defs₀ (F := F)) Variants.none c none) Set.univ
      (cc0__body i arg1 harg1 arg2 harg2 arg3 harg3 arg4 harg4 arg5 harg5 arg6 harg6 arg7 harg7 arg8 harg8 arg9 harg9 arg10 harg10 arg11 harg11 hbM (Memref.isWhole_whole _) arg13 harg13 arg14 harg14 arg15 harg15 scM (Memref.isWhole_whole _) cc0_scratch1) K := by
  have hc1 : Scalar.cmpi .ne (Scalar.extui (Scalar.cmpi .eq (BitVec.ofNat 32 (i 0).val) 0#32) : BitVec 32) 0#32 ≠ 1#1 := by
    rw [hi]; decide
  have hc2 : k0_cond2 i ≠ 1#1 := by
    unfold k0_cond2; rw [hi]; decide
  have hc3 : k0_cond3 i = 1#1 := by
    unfold k0_cond3; rw [hi]; decide
  simp only [cc0__body_eq_skeleton]; unfold cc0__body_skel
  simp only [k0_part2_eq_skeleton]; unfold k0_part2_skel
  simp only [dif_neg hc1, dif_neg hc2, dif_pos hc3]
  unfold owns Fly
  iintro ⟨⟨%W, Ho⟩, ⟨%h, %hh, Hg, Hb⟩, ⟨%f8, %h8, H8⟩, ⟨%f9, %h9, H9⟩, ⟨%f10, %h10, H10⟩, ⟨%f11, %h11, H11⟩, ⟨%f13, %h13, H13⟩, ⟨%f14, %h14, H14⟩, ⟨%f15, %h15, H15⟩, Hk⟩
  sl_exec
  sl_step
  iapply Hk
  isplitl [Ho]
  · iexists _
    iexact Ho
  isplitl [Hg_dst]
  · iexists _
    iexact Hg_dst
  isplitl [Hg]
  · iexact Hg
  isplitl [Hb]
  · iexact Hb
  isplitl [H8]
  · iexists f8
    isplitr [H8]
    · ipureintro; exact h8
    · iexact H8
  isplitl [H9]
  · iexists f9
    isplitr [H9]
    · ipureintro; exact h9
    · iexact H9
  isplitl [H10]
  · iexists f10
    isplitr [H10]
    · ipureintro; exact h10
    · iexact H10
  isplitl [H11]
  · iexists f11
    isplitr [H11]
    · ipureintro; exact h11
    · iexact H11
  isplitl [H13]
  · iexists f13
    isplitr [H13]
    · ipureintro; exact h13
    · iexact H13
  isplitl [H14]
  · iexists f14
    isplitr [H14]
    · ipureintro; exact h14
    · iexact H14
  iexists _
  isplitr [H15]
  swap
  · iexact H15
  ipureintro
  rw [View.read_writes_full]
  rw [View.readAt_full arg8.view f8, View.readAt_full arg9.view f9, View.readAt_full arg10.view f10, View.readAt_full arg11.view f11, View.readAt_full arg13.view f13, View.readAt_full arg14.view f14, View.readAt_full scM.view h, h8, h9, h10, h11, h13, h14, hh]

end Cert.KernelIdeal.Body

end
-- ==== Proof.RunIdeal.lean ====
module

public import proofs.«01_k».proof.Proof.BodyIdeal
public import Idealize.ShloMosaic.Lib.Pipeline.ArrRel
public import Idealize.ShloMosaic.Lib.ValueIdxCore

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf BodyObligationRel)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the kernel keeps besides its windows -/

/-- The one semaphore the kernel has of its own. -/
def osem0 : Fin 1 → SemLoc sig := fun j => (![SemLoc.dma 15] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 15) 0 := by
  rw [Pipeline.ownSems0_eq_of_list c osem0 [0] (by decide) (by decide)]; rfl
/-- The one array the kernel reads outside the windows. -/
def H0 : Finset (Ref sig .tc) := {main_arg11}
theorem H0_sub : H0 ⊆ Pipeline.restRefs sig spec0 := by decide
theorem hbmPts0_eq (c : Dev nD) :
    (bigSep H0 fun b => ((c : Thread nD τ).loc b) ↦{fullShare} V m c b : sProp 𝕄) = hbPt c hbM (V m c main_arg11) := by
  rw [BI.bigSep_eq_bigSepL_of_eq [main_arg11] (by decide) (by decide)]; rfl
theorem PhiD0_eq (c : Dev nD) :
    (Pipeline.ΦD osem0 spec0 H0 (V m) c : sProp 𝕄)
      = iprop((∃ g, hbPt (F := F) c scM g) ∗ (∃ r, prngReg c r) ∗ semVal ((c : Thread nD τ), SemLoc.dma 15) 0 ∗ hbPt c hbM (V m c main_arg11)) := by
  rw [Pipeline.ΦD_eq, scopedRest0_eq, ownSems00_eq, hbmPts0_eq]; try rfl

/-! ## What the points compute -/

theorem coords_val : ∀ t : Fin grid0.N, (grid0.coords t 0).val = t.val := by decide +kernel

/-- The four rows of encoded clouds point `t` computes. -/
def encRows (c : Dev nD) (t : Fin cfg0.N) : Vec F S4x128 .f32 :=
  k0_pay1 (k0_pay2 (iblk m c 0 t) (iblk m c 1 t) (iblk m c 2 t) (iblk m c 3 t) (iblk m c 4 t) (iblk m c 5 t) (iblk m c 6 t))
/-- The whole array of encoded clouds: row `r` is row `r % 4` of what point `r / 4` computes. -/
def codes (c : Dev nD) : Vec F S16x128 .f32 := fun y =>
  encRows m c ⟨(y 0).val / 4, by have h : (y 0).val < 16 := (y 0).isLt; rw [show cfg0.N = 5 from N_0]; omega⟩
    (ValueIdx.ix2 (⟨(y 0).val % 4, Nat.mod_lt _ (by decide)⟩ : Fin 4) (y 1 : Fin 128))
/-- What the last point computes. -/
def decoded (c : Dev nD) (t : Fin cfg0.N) : Vec F S16x3000 .f32 :=
  k0_pay3 (codes m c) (iblk m c 7 t) (iblk m c 8 t) (iblk m c 9 t) (iblk m c 10 t) (hbM.view.read (Elt F) (V m c main_arg11)) (iblk m c 11 t)

/-- Between the points: before the first and after the last the kernel holds its buffers, its semaphore at zero and the weight; in between the copy flies. -/
def between (c : Dev nD) (n : ℕ) : sProp 𝕄 :=
  if n = 0 ∨ n = 5 then Pipeline.ΦD osem0 spec0 H0 (V m) c else iprop((∃ r, prngReg c r) ∗ Fly c (V m c main_arg11))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => codes m c
    | ⟨13, _⟩ => decoded m c t
  Φ t := between m c t.val
  q _ := fullShare
  owed _ := 0

/-- The window of encoded clouds is written four rows at a point. -/
def fgt0 : Fin cfg0.W → Bool := fun w => w.val == 12
/-- After point `t` its first `4 (t + 1)` rows are there. -/
def Rl0 (c : Dev nD) : (w : Fin cfg0.W) → Fin cfg0.N → ((cfg0.win w).block.Idx → Elt F (cfg0.win w).elt) → Prop
  | ⟨12, _⟩ => fun t (X : Vec F S16x128 .f32) => ∀ y : S16x128.Idx, (y 0).val < 4 * (t.val + 1) → X y = codes m c y
  | _ => fun _ _ => True

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem after0_13 (c : Dev nD) (t : Fin cfg0.N) : (dats m 0 c).after 13 t = decoded m c t := by dsimp only [dats]

/-- Putting point `t`'s rows over an array whose earlier rows are right leaves its first `4 (t + 1)` rows right. -/
theorem put_codes (c : Dev nD) (t : Fin cfg0.N) (ht : t.val < 4) (Y : Vec F S16x128 .f32) (hY : ∀ y : S16x128.Idx, (y 0).val < 4 * t.val → Y y = codes m c y)
    (y : S16x128.Idx) (hy : (y 0).val < 4 * (t.val + 1)) :
    VecWindow.put Y (k0_off1 (grid0.coords t)) S4x128.size (encRows m c t) y = codes m c y := by
  rw [k0_off1_eq, coords_val]
  unfold VecWindow.put
  have h1 : (y 1).val < 128 := (y 1).isLt
  split
  · rename_i h
    have h0 := (h 0).1
    have h0' : 4 * t.val ≤ (y 0).val := h0
    unfold codes
    have e : (⟨(y 0).val / 4, by have h : (y 0).val < 16 := (y 0).isLt; rw [show cfg0.N = 5 from N_0]; omega⟩ : Fin cfg0.N) = t := Fin.ext (by show (y 0).val / 4 = t.val; omega)
    rw [e]
    refine congrArg (encRows m c t) (funext fun a => Fin.ext ?_)
    fin_cases a
    · show (y 0).val - 4 * t.val = (y 0).val % 4
      omega
    · show (y 1).val - 0 = (y 1).val
      omega
  · rename_i h
    refine hY y (Nat.lt_of_not_le fun hle => h fun a => ?_)
    fin_cases a
    · exact ⟨hle, by show (y 0).val < 4 * t.val + 4; omega⟩
    · exact ⟨Nat.zero_le _, by show (y 1).val < 0 + 128; omega⟩

/-- What the last window is left at: untouched before the last point, and the decoder's result at it. -/
def post13 (c : Dev nD) (t : Fin cfg0.N) : sProp 𝕄 :=
  match cfg0.idle 13 (cfg0.grid.coords t) with
  | true =>
    match (cfg0.win 13).flush t with
    | false => iprop(∃ d, owns (c : Thread nD τ) (st0_13 t) fullShare ((dats m 0 c).before 13 t d))
    | true => owns (c : Thread nD τ) (st0_13 t) fullShare ((dats m 0 c).after 13 t)
  | false => owns (c : Thread nD τ) (st0_13 t) fullShare ((dats m 0 c).after 13 t)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d))
    ∗ (∃ Y, ⌜((dats m 0 c).toRRel fgt0 (Rl0 m c)).Finds 12 t Y⌝ ∗ owns (c : Thread nD τ) (st0_12 t) fullShare Y)
    ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t)
    ∗ (∃ X, ⌜Rl0 m c 12 t X⌝ ∗ owns (c : Thread nD τ) (st0_12 t) fullShare X)
    ∗ post13 m c t)

theorem phi_eq (c : Dev nD) (t : Fin (cfg0.N + 1)) : (dats m 0 c).Φ t = between m c t.val := by dsimp only [dats]

/-- What the encoded clouds' window holds when a later point begins. -/
theorem finds_codes (c : Dev nD) (t : Fin cfg0.N) (ht : t.val ≠ 0) (Y : Vec F S16x128 .f32) (hF : ((dats m 0 c).toRRel fgt0 (Rl0 m c)).Finds 12 t Y)
    (y : S16x128.Idx) (hy : (y 0).val < 4 * t.val) : Y y = codes m c y := by
  have hN : cfg0.N = 5 := N_0
  have htl := t.isLt
  have hf : (cfg0.win 12).fetch t = false := rfl
  rcases (((dats m 0 c).toRRel fgt0 (Rl0 m c)).finds_of_pos hf ht Y).mp hF with h | h
  · have := (flush0_12 _).mp h
    dsimp only at this
    omega
  · have h' : Rl0 m c 12 ⟨t.val - 1, Nat.lt_of_le_of_lt (Nat.sub_le _ _) t.isLt⟩ Y := (dats m 0 c).toRRel_leaves rfl h
    exact h' y (by show (y 0).val < 4 * (t.val - 1 + 1); omega)
theorem idle13_true : ∀ t : Fin cfg0.N, t.val < 4 → cfg0.idle 13 (cfg0.grid.coords t) = true := by decide +kernel
theorem idle13_false : ∀ t : Fin cfg0.N, t.val = 4 → cfg0.idle 13 (cfg0.grid.coords t) = false := by decide +kernel
/-- The first point. -/
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  have hN : cfg0.N = 5 := N_0
  have htl := t.isLt
  rw [phi_eq, phi_eq, Fin.val_castSucc, Fin.val_succ]
  have e1 : between m c t.val = Pipeline.ΦD osem0 spec0 H0 (V m) c := if_pos (Or.inl h0)
  have e2 : between m c (t.val + 1) = iprop((∃ r, prngReg c r) ∗ Fly c (V m c main_arg11)) := if_neg (by omega)
  rw [e1, e2, PhiD0_eq]
  have hi13 : post13 m c t = iprop(∃ d, owns (c : Thread nD τ) (st0_13 t) fullShare ((dats m 0 c).before 13 t d)) := by
    have e1 : cfg0.idle 13 (cfg0.grid.coords t) = true := idle13_true t (by omega)
    have e2 : (cfg0.win 13).flush t = false := by
      rw [Bool.eq_false_iff]; intro h; have := (flush0_13 t).mp h; omega
    unfold post13; rw [e1, e2]
  rw [hi13]
  unfold Dat.owesAt Pipeline.owesWithin
  rw [show (dats m 0 c).owed t.castSucc = 0 from rfl, show (dats m 0 c).owed t.succ = 0 from rfl]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11]
  iintro ⟨⟨⟨%g, Hs⟩, Hp, Hg, Hb⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, %hF, H12⟩, H13⟩
  iapply (run_first c (grid0.coords t) (by rw [coords_val]; exact h0) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y (V m c main_arg11) g _)
  isplitl [HW]
  · iexists W
    iexact HW
  isplitl [Hs]
  · iexact Hs
  isplitl [Hg]
  · iexact Hg
  isplitl [Hb]
  · iexact Hb
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H12]
  · iexact H12
  iintro ⟨Ho, HF, H0, H1, H2, H3, H4, H5, H6, H12⟩
  isplitl [Hp HF]
  · isplitl [Hp]
    · iexact Hp
    · iexact HF
  isplitl [Ho]
  · icases Ho with ⟨%W', Ho⟩
    iexists W'
    isplitr
    · ipureintro; exact fun _ _ => Or.inl trivial
    · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _
    isplitr [H12]
    swap
    · iexact H12
    ipureintro
    exact put_codes m c t (by omega) Y (fun y hy => absurd hy (by omega))
  iexact H13
/-- A middle point. -/
theorem sound_mid (c : Dev nD) (t : Fin cfg0.N) (h0 : t.val ≠ 0) (h4 : t.val < 4) :
    bodyPre m c t ⊢ wp frame (wpE (defs₀ (F := F)) Variants.none c none) Set.univ (bodyAt0 t) (fun _ => bodyPost m c t) := by
  unfold bodyPre bodyPost bodyAt0
  have hN : cfg0.N = 5 := N_0
  have htl := t.isLt
  rw [phi_eq, phi_eq, Fin.val_castSucc, Fin.val_succ]
  have e1 : between m c t.val = iprop((∃ r, prngReg c r) ∗ Fly c (V m c main_arg11)) := if_neg (by omega)
  have e2 : between m c (t.val + 1) = iprop((∃ r, prngReg c r) ∗ Fly c (V m c main_arg11)) := if_neg (by omega)
  rw [e1, e2]
  have hi13 : post13 m c t = iprop(∃ d, owns (c : Thread nD τ) (st0_13 t) fullShare ((dats m 0 c).before 13 t d)) := by
    have e1 : cfg0.idle 13 (cfg0.grid.coords t) = true := idle13_true t (by omega)
    have e2 : (cfg0.win 13).flush t = false := by
      rw [Bool.eq_false_iff]; intro h; have := (flush0_13 t).mp h; omega
    unfold post13; rw [e1, e2]
  rw [hi13]
  unfold Dat.owesAt Pipeline.owesWithin
  rw [show (dats m 0 c).owed t.castSucc = 0 from rfl, show (dats m 0 c).owed t.succ = 0 from rfl]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, %hF, H12⟩, H13⟩
  iapply (run_enc c (grid0.coords t) (by rw [coords_val]; exact h0) (by rw [coords_val]; exact h4) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H12]
  · iexact H12
  iintro ⟨H0, H1, H2, H3, H4, H5, H6, H12⟩
  isplitl [HΦ]
  · iexact HΦ
  isplitl [HW]
  · iexists W
    isplitr
    · ipureintro; exact fun _ _ => Or.inl trivial
    · iexact HW
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _
    isplitr [H12]
    swap
    · iexact H12
    ipureintro
    exact put_codes m c t h4 Y (finds_codes m c t h0 Y hF)
  iexact H13
/-- The last point. -/
theorem sound_last (c : Dev nD) (t : Fin cfg0.N) (h4 : t.val = 4) :
    bodyPre m c t ⊢ wp frame (wpE (defs₀ (F := F)) Variants.none c none) Set.univ (bodyAt0 t) (fun _ => bodyPost m c t) := by
  unfold bodyPre bodyPost bodyAt0
  have hN : cfg0.N = 5 := N_0
  have htl := t.isLt
  rw [phi_eq, phi_eq, Fin.val_castSucc, Fin.val_succ]
  have e1 : between m c t.val = iprop((∃ r, prngReg c r) ∗ Fly c (V m c main_arg11)) := if_neg (by omega)
  have e2 : between m c (t.val + 1) = Pipeline.ΦD osem0 spec0 H0 (V m) c := if_pos (Or.inr (by omega))
  rw [e1, e2, PhiD0_eq]
  have hi13 : post13 m c t = owns (c : Thread nD τ) (st0_13 t) fullShare (decoded m c t) := by
    unfold post13; rw [idle13_false t h4, after0_13]
  rw [hi13]
  unfold Dat.owesAt Pipeline.owesWithin
  rw [show (dats m 0 c).owed t.castSucc = 0 from rfl, show (dats m 0 c).owed t.succ = 0 from rfl]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11]
  iintro ⟨⟨Hp, HF⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, %hF, H12⟩, H13⟩
  icases H13 with ⟨%d13, H13⟩
  have hY : Y = codes m c := funext fun y => finds_codes m c t (by omega) Y hF y (by have h : (y 0).val < 16 := (y 0).isLt; omega)
  subst hY
  iapply (run_last c (grid0.coords t) (by rw [coords_val]; exact h4) _ _ _ _ _ _ _ _ _ _ _ _ _ _ _ _ _ _ _ _ _ _ _ _ _ _ _ _ (iblk m c 7 t) (iblk m c 8 t) (iblk m c 9 t) (iblk m c 10 t) (iblk m c 11 t) (codes m c) _ (V m c main_arg11) _)
  isplitl [HW]
  · iexists W
    iexact HW
  isplitl [HF]
  · iexact HF
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iintro ⟨Ho, Hs, Hg, Hb, H7, H8, H9, H10, H11, H12, H13⟩
  isplitl [Hp Hs Hg Hb]
  · isplitl [Hs]
    · iexact Hs
    isplitl [Hp]
    · iexact Hp
    isplitl [Hg]
    · iexact Hg
    · iexact Hb
  isplitl [Ho]
  · icases Ho with ⟨%W', Ho⟩
    iexists W'
    isplitr
    · ipureintro; exact fun _ _ => Or.inl trivial
    · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _
    isplitr [H12]
    swap
    · iexact H12
    ipureintro
    exact fun y _ => rfl
  iexact H13

theorem defs₀_row (t : Fin cfg0.N) : defs₀ (F := F) .tc cfg0.body (cfg0.bodyArgs t (cfg0.slots t)) = bodyAt0 t := by
  unfold defs₀; rw [Defs.onTc_tc]

theorem sound_body (c : Dev nD) (t : Fin cfg0.N) :
    bodyPre m c t ⊢ wp frame (wpE (defs₀ (F := F)) Variants.none c none) Set.univ (bodyAt0 t) (fun _ => bodyPost m c t) := by
  have hN : cfg0.N = 5 := N_0
  have htl := t.isLt
  by_cases h0 : t.val = 0
  · exact sound_first m c t h0
  by_cases h4 : t.val < 4
  · exact sound_mid m c t h0 h4
  · exact sound_last m c t (by omega)

theorem body_obligation (c : Dev nD) : BodyObligationRel (dats (F := F) m 0 c) (defs₀ (F := F)) Variants.none () Set.univ fgt0 (Rl0 m c) := fun t => by
  rw [bigSep_W0, bigSep_W0, defs₀_row]
  exact triple_restated (sound_body m c t) rfl .rfl fun _ => .rfl

end Cert.KernelIdeal.Body

end
-- ==== Proof.EndIdeal.lean ====
module

public import proofs.«01_k».proof.Proof.RunIdeal
public import Idealize.ShloMosaic.Lib.Pipeline.Cells
public import Idealize.ShloMosaic.Lib.Pipeline.ValueKit.Geometry

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligationRel)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The proof data, read with the encoded clouds' window held to its rows. -/
def rdats (p : Fin 1) (c : Dev nD) : RDat τ (Elt F) Unit ℕ (Pipeline.UD sig nD τ) ℕ cfg0 c := (dats m p c).toRRel fgt0 (Rl0 m c)

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  simp only [hostOps1, List.mem_cons, List.mem_nil_iff, or_false] at hop
  rcases hop with rfl
  intro b hb
  rw [H0, Finset.mem_singleton] at hb
  subst hb
  simp only [StableHlo.reshape_bufs, Finset.mem_insert, Finset.mem_singleton, not_or]
  exact ⟨StableHlo.devRef_ne_of_ne (by decide), StableHlo.devRef_ne_of_ne (by decide)⟩

set_option backward.isDefEq.respectTransparency.types false in
theorem run_main : θ_run defs (onTc (τ := τ) (main (F := F))) (s₀ m ρ)
    (fun r => Around.Post cfgs 0 (rdats m) (V0 m) [hostOps1] r ∧ r.2.sem = fun _ => 0) :=
  Around.run cfgs 0 launch0 (rdats m) osem0 defs₀ Variants.none ownSemFacts0 H0 H0_sub m ρ main
    (fun c => (body_obligation m c).toRRel) (fun c => (dats m 0 c).share_full fun _ => rfl) (fun _ _ => rfl)
    (V0 m) [hostOps1] sfx_subD sfx_fresh sfx_keeps (hmainD m Variants.none) (A_eq m)
    (fun c => by
      show _ ⊢ (dats m 0 c).Φ 0
      rw [phi_eq]; exact (BIBase.BiEntails.of_eq (if_pos (Or.inl rfl))).2)
    (fun c => by
      show (dats m 0 c).Φ (Fin.last _) ⊢ _
      rw [phi_eq]; exact (BIBase.BiEntails.of_eq (if_pos (Or.inr rfl))).1)

/-! ## Reading the end -/

theorem tail_keeps (c : Dev nD) (A : (w : Fin cfg0.W) → Buf (Elt F) ((spec0 w).arr.view.loc (c.tc : Thread nD τ))) (b : Ref sig .tc) (hb : b ≠ main_v0_0)
    (ha : ∀ w, Pipeline.arrRef spec0 w ≠ b) :
    StableHlo.after (List.flatten [hostOps1]) (Pipeline.withArrays spec0 c (V0 m c) A) (Proc.devRef .tc b) = V m c b := by
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b ha]

theorem codes_of_arrAt (c : Dev nD) (G : Buf (Elt F) ((spec0 12).arr.view.loc (c.tc : Thread nD τ))) (hG : (rdats m 0 c).ArrAt 12 cfg0.N G) :
    G = codes m c := by
  obtain ⟨X, hX, hE⟩ := hG.emb_eq_of_wholeAt (t₀ := t0_4) (by decide +kernel)
  have hR : Rl0 m c 12 t0_4 X := (dats m 0 c).toRRel_leaves rfl hX
  funext y
  refine (hE y).trans ?_
  refine (cast_eq _ _).trans ((hR _ ?_).trans ?_)
  · show (y 0).val < 4 * (4 + 1)
    have h : (y 0).val < 16 := (y 0).isLt
    omega
  · rfl

theorem decoded_of_arrAt (c : Dev nD) (G : Buf (Elt F) ((spec0 13).arr.view.loc (c.tc : Thread nD τ))) (hG : (rdats m 0 c).ArrAt 13 cfg0.N G) :
    G = decoded m c t0_4 := by
  obtain ⟨X, ⟨Y, hF, hX⟩, hE⟩ := hG.emb_eq_of_wholeAt (t₀ := t0_4) (by decide +kernel)
  unfold rdats at hX
  rw [(dats m 0 c).toRRel_after_of_eq_false (w := 13) rfl] at hX
  have hX' : X = decoded m c t0_4 := hX
  subst hX'
  funext y
  refine (hE y).trans ?_
  exact (cast_eq _ _).trans rfl

/-- What every run ends in: the arguments as launched, the two results at the values named above, every semaphore at zero. -/
theorem run_all : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.mem ((c.tc : Thread nD τ).loc main_v0_1) = codes m c
      ∧ r.2.mem ((c.tc : Thread nD τ).loc main_v0_0) = shapeCast S16x1000x3 (decoded m c t0_4) shapeCasts_S16x3000_S16x1000x3)
      ∧ r.2.sem = fun _ => 0) :=
  (θ_run defs _ _).mono (fun r h => ⟨fun c => by
    obtain ⟨hW, A, hA, hB⟩ := h.1 c
    have h1 : (rdats m 0 c).ArrAt 1 cfg0.N (r.2.mem ((c.tc : Thread nD τ).loc main_arg1)) := hW 1
    have h3 : (rdats m 0 c).ArrAt 3 cfg0.N (r.2.mem ((c.tc : Thread nD τ).loc main_arg3)) := hW 3
    have h5 : (rdats m 0 c).ArrAt 5 cfg0.N (r.2.mem ((c.tc : Thread nD τ).loc main_arg5)) := hW 5
    have h7 : (rdats m 0 c).ArrAt 7 cfg0.N (r.2.mem ((c.tc : Thread nD τ).loc main_arg7)) := hW 7
    have h9 : (rdats m 0 c).ArrAt 9 cfg0.N (r.2.mem ((c.tc : Thread nD τ).loc main_arg9)) := hW 9
    have k0 : r.2.mem ((c.tc : Thread nD τ).loc main_arg0) = m ((c.tc : Thread nD τ).loc main_arg0) := by
      exact (hB main_arg0 (Pipeline.mem_restRefs_of main_arg0 (by decide) (by decide))).trans ((tail_keeps m c A main_arg0 (by decide) (by decide)).trans (V_main_arg0 m c))
    have k1 : r.2.mem ((c.tc : Thread nD τ).loc main_arg1) = m ((c.tc : Thread nD τ).loc main_arg1) := by
      rw [Pipeline.RDat.ArrAt_in _ 1 rfl _] at h1
      exact h1.trans ((A_eq m c 1).trans (V_main_arg1 m c))
    have k2 : r.2.mem ((c.tc : Thread nD τ).loc main_arg2) = m ((c.tc : Thread nD τ).loc main_arg2) := by
      exact (hB main_arg2 (Pipeline.mem_restRefs_of main_arg2 (by decide) (by decide))).trans ((tail_keeps m c A main_arg2 (by decide) (by decide)).trans (V_main_arg2 m c))
    have k3 : r.2.mem ((c.tc : Thread nD τ).loc main_arg3) = m ((c.tc : Thread nD τ).loc main_arg3) := by
      rw [Pipeline.RDat.ArrAt_in _ 3 rfl _] at h3
      exact h3.trans ((A_eq m c 3).trans (V_main_arg3 m c))
    have k4 : r.2.mem ((c.tc : Thread nD τ).loc main_arg4) = m ((c.tc : Thread nD τ).loc main_arg4) := by
      exact (hB main_arg4 (Pipeline.mem_restRefs_of main_arg4 (by decide) (by decide))).trans ((tail_keeps m c A main_arg4 (by decide) (by decide)).trans (V_main_arg4 m c))
    have k5 : r.2.mem ((c.tc : Thread nD τ).loc main_arg5) = m ((c.tc : Thread nD τ).loc main_arg5) := by
      rw [Pipeline.RDat.ArrAt_in _ 5 rfl _] at h5
      exact h5.trans ((A_eq m c 5).trans (V_main_arg5 m c))
    have k6 : r.2.mem ((c.tc : Thread nD τ).loc main_arg6) = m ((c.tc : Thread nD τ).loc main_arg6) := by
      exact (hB main_arg6 (Pipeline.mem_restRefs_of main_arg6 (by decide) (by decide))).trans ((tail_keeps m c A main_arg6 (by decide) (by decide)).trans (V_main_arg6 m c))
    have k7 : r.2.mem ((c.tc : Thread nD τ).loc main_arg7) = m ((c.tc : Thread nD τ).loc main_arg7) := by
      rw [Pipeline.RDat.ArrAt_in _ 7 rfl _] at h7
      exact h7.trans ((A_eq m c 7).trans (V_main_arg7 m c))
    have k8 : r.2.mem ((c.tc : Thread nD τ).loc main_arg8) = m ((c.tc : Thread nD τ).loc main_arg8) := by
      exact (hB main_arg8 (Pipeline.mem_restRefs_of main_arg8 (by decide) (by decide))).trans ((tail_keeps m c A main_arg8 (by decide) (by decide)).trans (V_main_arg8 m c))
    have k9 : r.2.mem ((c.tc : Thread nD τ).loc main_arg9) = m ((c.tc : Thread nD τ).loc main_arg9) := by
      rw [Pipeline.RDat.ArrAt_in _ 9 rfl _] at h9
      exact h9.trans ((A_eq m c 9).trans (V_main_arg9 m c))
    have k10 : r.2.mem ((c.tc : Thread nD τ).loc main_arg10) = m ((c.tc : Thread nD τ).loc main_arg10) := by
      exact (hB main_arg10 (Pipeline.mem_restRefs_of main_arg10 (by decide) (by decide))).trans ((tail_keeps m c A main_arg10 (by decide) (by decide)).trans (V_main_arg10 m c))
    have k11 : r.2.mem ((c.tc : Thread nD τ).loc main_arg11) = m ((c.tc : Thread nD τ).loc main_arg11) := by
      exact (hB main_arg11 (Pipeline.mem_restRefs_of main_arg11 (by decide) (by decide))).trans ((tail_keeps m c A main_arg11 (by decide) (by decide)).trans (V_main_arg11 m c))
    have k12 : r.2.mem ((c.tc : Thread nD τ).loc main_arg12) = m ((c.tc : Thread nD τ).loc main_arg12) := by
      exact (hB main_arg12 (Pipeline.mem_restRefs_of main_arg12 (by decide) (by decide))).trans ((tail_keeps m c A main_arg12 (by decide) (by decide)).trans (V_main_arg12 m c))
    refine ⟨⟨k0, k1, k2, k3, k4, k5, k6, k7, k8, k9, k10, k11, k12⟩, codes_of_arrAt m c _ (hW 12), ?_⟩
    refine (hB main_v0_0 (Pipeline.mem_restRefs_of main_v0_0 (by decide) (by decide))).trans ?_
    have e13 := decoded_of_arrAt m c _ (hA 13)
    have ew : Pipeline.withArrays spec0 c (V0 m c) A (Proc.devRef .tc main_call0_v7_1) = A 13 :=
      Pipeline.withArrays_arr spec0 launch0.win.arr_inj c (V0 m c) A 13
    rw [← e13, ← ew]
    rfl, h.2⟩) (run_main m ρ)

end Cert.KernelIdeal.Body

end
-- ==== Proof.RefFrame.lean ====
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.RefFrame

open Idealize.ShloMosaic Idealize.SL.Sem Cert.ReferenceIdeal

/-- The reference has no semaphores and leaves its arguments alone. -/
theorem quiescent : Cert.quiescent_ReferenceIdeal := fun m g _ =>
  (θ_run defs _ _).mono (fun r h => ⟨fun c => (h c).2.2, sem_eq_zero_of_no_sems (by decide) r.2⟩) (Value.run (F := Ideal) m g)

end Cert.RefFrame

end
-- ==== Proof.Gauss.lean ====
/-
  The integral of `exp (-t²)` over the half line is `√π / 2`: `(∫₀ˣ exp (-t²))² + ∫₀¹ exp (-x² (1 + t²)) / (1 + t²)` does not depend on `x`,
  is `π / 4` at zero, and its second term vanishes at infinity.
-/
module

public import Mathlib.MeasureTheory.Integral.IntervalIntegral.Basic
public import Mathlib.Analysis.SpecialFunctions.Trigonometric.Arctan
public import Mathlib.Analysis.SpecialFunctions.ExpDeriv
public import Mathlib.Analysis.Calculus.Deriv.MeanValue
public import Mathlib.Analysis.Calculus.Deriv.Pow
public import Mathlib.Analysis.Calculus.Deriv.Inv

@[expose] public section

namespace Cert.Gauss

open Filter Topology intervalIntegral

noncomputable section

/-- The integral of a continuous function up to `x` has the function's value as derivative. -/
theorem hasDerivAt_integral {f : ℝ → ℝ} (hf : Continuous f) (a x : ℝ) : HasDerivAt (fun u => ∫ t in a..u, f t) (f x) x := by
  rw [hasDerivAt_iff_isLittleO, Asymptotics.isLittleO_iff]
  intro c hc
  obtain ⟨δ, hδ, h⟩ := Metric.continuousAt_iff.mp (hf.continuousAt (x := x)) c hc
  filter_upwards [Metric.ball_mem_nhds x hδ] with u hu
  have e : (∫ t in a..u, f t) - (∫ t in a..x, f t) - (u - x) • f x = ∫ t in x..u, (f t - f x) := by
    rw [integral_interval_sub_left (hf.intervalIntegrable _ _) (hf.intervalIntegrable _ _),
      integral_sub (hf.intervalIntegrable _ _) (continuous_const.intervalIntegrable _ _), integral_const]
  rw [e, Real.norm_eq_abs (u - x)]
  refine norm_integral_le_of_norm_le_const fun t ht => ?_
  have ht' : dist t x < δ := by
    rw [Metric.mem_ball, Real.dist_eq] at hu
    rw [Real.dist_eq]
    refine lt_of_le_of_lt ?_ hu
    rcases Set.mem_uIoc.mp ht with ⟨h1, h2⟩ | ⟨h1, h2⟩
    · rw [abs_of_nonneg (by linarith), abs_of_nonneg (by linarith)]; linarith
    · rw [abs_of_nonpos (by linarith), abs_of_nonpos (by linarith)]; linarith
  have := h ht'
  rw [Real.dist_eq] at this
  exact this.le

/-- `∫₀ˣ exp (-t²)`. -/
def A (x : ℝ) : ℝ := ∫ t in (0 : ℝ)..x, Real.exp (-(t ^ 2))

theorem hasDerivAt_A (x : ℝ) : HasDerivAt A (Real.exp (-(x ^ 2))) x :=
  hasDerivAt_integral (f := fun t => Real.exp (-(t ^ 2))) (by fun_prop) 0 x

/-- `∫₀¹ exp (-s (1 + t²)) / (1 + t²)`. -/
def B (s : ℝ) : ℝ := ∫ t in (0 : ℝ)..1, Real.exp (-(s * (1 + t ^ 2))) / (1 + t ^ 2)

theorem continuous_B (s : ℝ) : Continuous fun t : ℝ => Real.exp (-(s * (1 + t ^ 2))) / (1 + t ^ 2) :=
  Continuous.div (by fun_prop) (by fun_prop) fun t => by positivity

/-- The derivative goes under the integral. -/
theorem hasDerivAt_B (s : ℝ) : HasDerivAt B (-∫ t in (0 : ℝ)..1, Real.exp (-(s * (1 + t ^ 2)))) s := by
  rw [hasDerivAt_iff_isLittleO, Asymptotics.isLittleO_iff]
  intro c hc
  -- the second-order remainder is at most `4 exp (2 |s|) (u - s)²`
  set K : ℝ := 4 * Real.exp (2 * |s|) with hK
  have hKpos : 0 < K := by positivity
  filter_upwards [Metric.ball_mem_nhds s (show 0 < min (1 / 2) (c / K) by positivity)] with u hu
  rw [Metric.mem_ball, Real.dist_eq, lt_min_iff] at hu
  have hexp : Continuous fun t : ℝ => Real.exp (-(s * (1 + t ^ 2))) := by fun_prop
  have e : B u - B s - (u - s) • (-∫ t in (0 : ℝ)..1, Real.exp (-(s * (1 + t ^ 2))))
      = ∫ t in (0 : ℝ)..1, (Real.exp (-(u * (1 + t ^ 2))) / (1 + t ^ 2) - Real.exp (-(s * (1 + t ^ 2))) / (1 + t ^ 2)
          + (u - s) * Real.exp (-(s * (1 + t ^ 2)))) := by
    have i1 : IntervalIntegrable (fun t : ℝ => Real.exp (-(u * (1 + t ^ 2))) / (1 + t ^ 2) - Real.exp (-(s * (1 + t ^ 2))) / (1 + t ^ 2))
        MeasureTheory.volume 0 1 := ((continuous_B u).sub (continuous_B s)).intervalIntegrable _ _
    have i2 : IntervalIntegrable (fun t : ℝ => (u - s) * Real.exp (-(s * (1 + t ^ 2)))) MeasureTheory.volume 0 1 :=
      (continuous_const.mul hexp).intervalIntegrable _ _
    rw [integral_add i1 i2, integral_sub ((continuous_B u).intervalIntegrable _ _) ((continuous_B s).intervalIntegrable _ _), integral_const_mul]
    unfold B
    simp only [smul_eq_mul]
    ring
  rw [e, Real.norm_eq_abs (u - s)]
  have hb : ‖∫ t in (0 : ℝ)..1, (Real.exp (-(u * (1 + t ^ 2))) / (1 + t ^ 2) - Real.exp (-(s * (1 + t ^ 2))) / (1 + t ^ 2)
          + (u - s) * Real.exp (-(s * (1 + t ^ 2))))‖ ≤ K * (u - s) ^ 2 * |(1 : ℝ) - 0| := by
    refine norm_integral_le_of_norm_le_const fun t ht => ?_
    rw [Set.uIoc_of_le zero_le_one] at ht
    set d : ℝ := 1 + t ^ 2 with hd
    have hd1 : 1 ≤ d := by rw [hd]; nlinarith [sq_nonneg t]
    have hd2 : d ≤ 2 := by rw [hd]; nlinarith [ht.1, ht.2]
    have hw : |-((u - s) * d)| ≤ 1 := by
      rw [abs_neg, abs_mul, abs_of_pos (by linarith : (0 : ℝ) < d)]
      nlinarith [hu.1, abs_nonneg (u - s)]
    have hx := Real.abs_exp_sub_one_sub_id_le hw
    have e2 : Real.exp (-(u * d)) / d - Real.exp (-(s * d)) / d + (u - s) * Real.exp (-(s * d))
        = Real.exp (-(s * d)) / d * (Real.exp (-((u - s) * d)) - 1 - -((u - s) * d)) := by
      have : Real.exp (-(u * d)) = Real.exp (-(s * d)) * Real.exp (-((u - s) * d)) := by
        rw [← Real.exp_add]; congr 1; ring
      rw [this]
      field_simp
      ring
    rw [e2, Real.norm_eq_abs, abs_mul, abs_of_pos (by positivity : 0 < Real.exp (-(s * d)) / d)]
    have h3 : Real.exp (-(s * d)) / d ≤ Real.exp (2 * |s|) := by
      refine (div_le_self (Real.exp_pos _).le hd1).trans (Real.exp_le_exp.mpr ?_)
      nlinarith [neg_abs_le s, abs_nonneg s]
    have h4 : (-((u - s) * d)) ^ 2 ≤ 4 * (u - s) ^ 2 := by
      have : d ^ 2 ≤ 4 := by nlinarith
      nlinarith [sq_nonneg (u - s)]
    calc Real.exp (-(s * d)) / d * |Real.exp (-((u - s) * d)) - 1 - -((u - s) * d)|
        ≤ Real.exp (2 * |s|) * (4 * (u - s) ^ 2) := mul_le_mul h3 (hx.trans h4) (abs_nonneg _) (Real.exp_pos _).le
      _ = K * (u - s) ^ 2 := by rw [hK]; ring
  refine hb.trans ?_
  have h5 : K * |u - s| ≤ c := by
    have := hu.2.le
    rw [le_div_iff₀ hKpos] at this
    linarith
  rw [sub_zero, abs_one, mul_one, ← sq_abs, pow_two, ← mul_assoc]
  exact mul_le_mul_of_nonneg_right h5 (abs_nonneg _)

/-- The exponential on the imaginary axis. -/
theorem hasDerivAt_circle (x : ℝ) :
    HasDerivAt (fun z : ℂ => Complex.exp (z * Complex.I)) (Complex.exp (x * Complex.I) * Complex.I) (x : ℂ) := by
  simpa using ((hasDerivAt_id (x : ℂ)).mul_const Complex.I).cexp

theorem hasDerivAt_cos (x : ℝ) : HasDerivAt Real.cos (-Real.sin x) x := by
  have h := (hasDerivAt_circle x).real_of_complex
  simpa [Complex.exp_ofReal_mul_I_re, Complex.exp_ofReal_mul_I_im] using h

theorem hasDerivAt_sin (x : ℝ) : HasDerivAt Real.sin (Real.cos x) x := by
  have h := ((hasDerivAt_circle x).mul_const (-Complex.I)).real_of_complex
  simpa [Complex.exp_ofReal_mul_I_re, Complex.exp_ofReal_mul_I_im] using h

/-- The derivative of the arc tangent. -/
theorem hasDerivAt_arctan (x : ℝ) : HasDerivAt Real.arctan (1 + x ^ 2)⁻¹ x := by
  have hc : Real.cos (Real.arctan x) ≠ 0 := (Real.cos_arctan_pos x).ne'
  have ht : HasDerivAt Real.tan (1 + x ^ 2) (Real.arctan x) := by
    have h := (hasDerivAt_sin (Real.arctan x)).div (hasDerivAt_cos (Real.arctan x)) hc
    have e : Real.tan = fun y => Real.sin y / Real.cos y := funext fun y => Real.tan_eq_sin_div_cos y
    rw [e]
    refine h.congr_deriv ?_
    have hx : Real.sin (Real.arctan x) = x * Real.cos (Real.arctan x) := by
      have := Real.tan_arctan x
      rw [Real.tan_eq_sin_div_cos, div_eq_iff hc] at this
      exact this
    rw [hx]
    field_simp
    ring
  exact ht.of_local_left_inverse Real.continuous_arctan.continuousAt (by positivity) (Filter.Eventually.of_forall Real.tan_arctan)

theorem integral_inv_one_add_sq : B 0 = Real.pi / 4 := by
  have hc : Continuous fun t : ℝ => (1 + t ^ 2)⁻¹ := Continuous.inv₀ (by fun_prop) fun t => by positivity
  have hder : ∀ x, HasDerivAt (fun u => (∫ t in (0 : ℝ)..u, (1 + t ^ 2)⁻¹) - Real.arctan u) 0 x := fun x => by
    exact ((hasDerivAt_integral hc 0 x).sub (hasDerivAt_arctan x)).congr_deriv (sub_self _)
  have h := is_const_of_deriv_eq_zero (fun x => (hder x).differentiableAt) (fun x => (hder x).deriv) 1 0
  simp only [integral_same, Real.arctan_zero, Real.arctan_one, sub_zero] at h
  have e : B 0 = ∫ t in (0 : ℝ)..1, (1 + t ^ 2)⁻¹ := by unfold B; simp
  rw [e]
  linarith

/-- The sum of the square and the second integral does not depend on `x`. -/
theorem sq_add (x : ℝ) : A x ^ 2 + B (x ^ 2) = Real.pi / 4 := by
  have hder : ∀ y, HasDerivAt (fun u => A u ^ 2 + B (u ^ 2)) 0 y := fun y => by
    have h1 := (hasDerivAt_A y).pow 2
    have h2 := (hasDerivAt_B (y ^ 2)).comp y (hasDerivAt_pow 2 y)
    refine (h1.add h2).congr_deriv ?_
    have e1 : (∫ t in (0 : ℝ)..1, Real.exp (-(y ^ 2 * (1 + t ^ 2)))) = Real.exp (-(y ^ 2)) * ∫ t in (0 : ℝ)..1, Real.exp (-((y * t) ^ 2)) := by
      rw [← integral_const_mul]
      refine congrArg (fun f : ℝ → ℝ => ∫ t in (0 : ℝ)..1, f t) (funext fun t => ?_)
      rw [← Real.exp_add]; congr 1; ring
    have e2 : y * (∫ t in (0 : ℝ)..1, Real.exp (-((y * t) ^ 2))) = A y := by
      have := smul_integral_comp_mul_left (a := 0) (b := 1) (f := fun t : ℝ => Real.exp (-(t ^ 2))) y
      simpa [A] using this
    rw [e1, ← e2]
    simp
    ring
  have h := is_const_of_deriv_eq_zero (fun y => (hder y).differentiableAt) (fun y => (hder y).deriv) x 0
  have h0 : A 0 = 0 := by simp [A]
  rw [h, h0]
  simp [integral_inv_one_add_sq]

theorem B_nonneg (s : ℝ) : 0 ≤ B s := integral_nonneg zero_le_one fun t _ => by positivity

theorem B_le {s : ℝ} (hs : 0 ≤ s) : B s ≤ Real.exp (-s) := by
  have h : B s ≤ ∫ _ in (0 : ℝ)..1, Real.exp (-s) := by
    refine integral_mono_on zero_le_one ((continuous_B s).intervalIntegrable _ _) (continuous_const.intervalIntegrable _ _) fun t _ => ?_
    refine (div_le_self (Real.exp_pos _).le (by nlinarith [sq_nonneg t])).trans (Real.exp_le_exp.mpr ?_)
    nlinarith [mul_nonneg hs (sq_nonneg t)]
  simpa using h

theorem tendsto_A : Tendsto A atTop (𝓝 (Real.sqrt Real.pi / 2)) := by
  have hB : Tendsto (fun x : ℝ => B (x ^ 2)) atTop (𝓝 0) := by
    refine squeeze_zero (fun x => B_nonneg _) (fun x => B_le (sq_nonneg x)) ?_
    exact Real.tendsto_exp_neg_atTop_nhds_zero.comp (tendsto_pow_atTop (by norm_num))
  have h1 : Tendsto (fun x : ℝ => Real.sqrt (Real.pi / 4 - B (x ^ 2))) atTop (𝓝 (Real.sqrt (Real.pi / 4 - 0))) :=
    (Real.continuous_sqrt.tendsto _).comp (tendsto_const_nhds.sub hB)
  have e : Real.sqrt (Real.pi / 4 - 0) = Real.sqrt Real.pi / 2 := by
    rw [sub_zero, Real.sqrt_div Real.pi_pos.le]
    congr 1
    rw [show (4 : ℝ) = 2 ^ 2 by norm_num]
    exact Real.sqrt_sq (by norm_num)
  rw [e] at h1
  refine h1.congr' ((eventually_ge_atTop 0).mono fun x hx => ?_)
  have hA : 0 ≤ A x := integral_nonneg hx fun t _ => (Real.exp_pos _).le
  rw [show Real.pi / 4 - B (x ^ 2) = A x ^ 2 by rw [← sq_add x]; ring]
  exact Real.sqrt_sq hA

end

end Cert.Gauss
-- ==== Proof.Gelu.lean ====
/-
  The exact GELU on the extended reals: its two spellings agree, and its greatest value over finitely many points is taken at the
  greatest or the least of them.
-/
module

public import Idealize.ShloMosaic.PureOps.Ideal.Laws
public import proofs.«01_k».proof.Proof.Gauss

@[expose] public section

namespace Cert.Gelu

open Idealize.ShloMosaic Filter Topology

noncomputable section

/-! ## The error function on the reals -/

/-- The error function at a real. -/
def er (x : ℝ) : ℝ := 2 / Real.sqrt Real.pi * ∫ t in (0 : ℝ)..x, Real.exp (-(t ^ 2))

/-- Its derivative. -/
def er' (x : ℝ) : ℝ := 2 / Real.sqrt Real.pi * Real.exp (-(x ^ 2))

theorem er'_pos (x : ℝ) : 0 < er' x := by
  unfold er'
  have := Real.sqrt_pos.mpr Real.pi_pos
  positivity

theorem hasDerivAt_er (x : ℝ) : HasDerivAt er (er' x) x :=
  (Gauss.hasDerivAt_A x).const_mul _

theorem hasDerivAt_er' (x : ℝ) : HasDerivAt er' (-(2 * x) * er' x) x := by
  unfold er'
  have h1 : HasDerivAt (fun t : ℝ => -(t ^ 2)) (-(2 * x)) x := by
    exact (hasDerivAt_pow 2 x).fun_neg.congr_deriv (by simp)
  exact ((h1.exp).const_mul (2 / Real.sqrt Real.pi)).congr_deriv (by ring)

theorem er_monotone : Monotone er :=
  monotone_of_deriv_nonneg (fun x => (hasDerivAt_er x).differentiableAt) fun x => by
    rw [(hasDerivAt_er x).deriv]; exact (er'_pos x).le

theorem er_zero : er 0 = 0 := by simp [er]

theorem er_neg (x : ℝ) : er (-x) = -er x := by
  have h := Ideal.erf_neg (x : EReal)
  rw [← EReal.coe_neg, Ideal.erf_coe, Ideal.erf_coe, ← EReal.coe_neg] at h
  exact EReal.coe_injective h

theorem tendsto_er_atTop : Tendsto er atTop (𝓝 1) := by
  have h := Gauss.tendsto_A.const_mul (2 / Real.sqrt Real.pi)
  have hs : Real.sqrt Real.pi ≠ 0 := (Real.sqrt_pos.mpr Real.pi_pos).ne'
  have h1 : 2 / Real.sqrt Real.pi * (Real.sqrt Real.pi / 2) = 1 := by field_simp
  rw [h1] at h
  exact h

theorem er_le_one (x : ℝ) : er x ≤ 1 :=
  ge_of_tendsto tendsto_er_atTop ((eventually_ge_atTop x).mono fun _ h => er_monotone h)

theorem neg_one_le_er (x : ℝ) : -1 ≤ er x := by
  have := er_le_one (-x)
  rw [er_neg] at this
  linarith

theorem tendsto_er_atBot : Tendsto er atBot (𝓝 (-1)) := by
  have h := (tendsto_er_atTop.comp tendsto_neg_atBot_atTop).neg
  refine h.congr fun x => ?_
  simp [er_neg]

/-! ## The curve `s (1 + erf s)` falls, then rises -/

/-- The curve. -/
def bend (s : ℝ) : ℝ := s * (1 + er s)

/-- Its derivative. -/
def slope (s : ℝ) : ℝ := 1 + er s + s * er' s

theorem hasDerivAt_bend (s : ℝ) : HasDerivAt bend (slope s) s := by
  exact ((hasDerivAt_id s).mul ((hasDerivAt_er s).const_add 1)).congr_deriv (by simp [slope])

theorem hasDerivAt_slope (s : ℝ) : HasDerivAt slope (2 * (1 - s ^ 2) * er' s) s := by
  exact (((hasDerivAt_er s).const_add 1).add ((hasDerivAt_id s).mul (hasDerivAt_er' s))).congr_deriv (by simp only [id]; ring)

theorem slope_pos_of_nonneg {s : ℝ} (hs : 0 ≤ s) : 0 < slope s := by
  have h0 : 0 ≤ er s := by rw [← er_zero]; exact er_monotone hs
  have := mul_nonneg hs (er'_pos s).le
  unfold slope; linarith

theorem slope_nonpos {s : ℝ} (hs : s ≤ -1) : slope s ≤ 0 := by
  have hanti : AntitoneOn slope (Set.Iic (-1)) := by
    refine antitoneOn_of_deriv_nonpos (convex_Iic _) (fun x _ => (hasDerivAt_slope x).continuousAt.continuousWithinAt)
      (fun x _ => (hasDerivAt_slope x).differentiableAt.differentiableWithinAt) fun x hx => ?_
    rw [interior_Iic, Set.mem_Iio] at hx
    rw [(hasDerivAt_slope x).deriv]
    have : 1 - x ^ 2 ≤ 0 := by nlinarith
    have h' := er'_pos x
    nlinarith
  have hlim : Tendsto (fun r => 1 + er r) atBot (𝓝 0) := by
    have := tendsto_er_atBot.const_add 1
    simpa using this
  refine ge_of_tendsto hlim ((eventually_le_atBot s).mono fun r hr => ?_)
  have h1 := hanti (Set.mem_Iic.mpr (hr.trans hs)) (Set.mem_Iic.mpr hs) hr
  have h2 : r * er' r ≤ 0 := mul_nonpos_of_nonpos_of_nonneg (by linarith) (er'_pos r).le
  unfold slope at h1 ⊢
  linarith

/-- Once the curve rises it goes on rising. -/
theorem slope_pos_mono {s t : ℝ} (hst : s ≤ t) (hs : 0 < slope s) : 0 < slope t := by
  have h1 : -1 < s := by
    by_contra h
    exact absurd (slope_nonpos (not_lt.mp h)) (not_le.mpr hs)
  rcases le_total t 1 with ht | ht
  · have hmono : MonotoneOn slope (Set.Icc (-1) 1) := by
      refine monotoneOn_of_deriv_nonneg (convex_Icc _ _) (fun x _ => (hasDerivAt_slope x).continuousAt.continuousWithinAt)
        (fun x _ => (hasDerivAt_slope x).differentiableAt.differentiableWithinAt) fun x hx => ?_
      rw [interior_Icc, Set.mem_Ioo] at hx
      rw [(hasDerivAt_slope x).deriv]
      have : 0 ≤ 1 - x ^ 2 := by nlinarith [hx.1, hx.2]
      have h' := er'_pos x
      positivity
    exact hs.trans_le (hmono ⟨h1.le, hst.trans ht⟩ ⟨h1.le.trans hst, ht⟩ hst)
  · exact slope_pos_of_nonneg (zero_le_one.trans ht)

/-- Between two points the curve is nowhere above both ends. -/
theorem bend_le {a t b : ℝ} (hat : a ≤ t) (htb : t ≤ b) : bend t ≤ max (bend a) (bend b) := by
  have hcont : ∀ D : Set ℝ, ContinuousOn bend D := fun D x _ => (hasDerivAt_bend x).continuousAt.continuousWithinAt
  have hdiff : ∀ D : Set ℝ, DifferentiableOn ℝ bend D := fun D x _ => (hasDerivAt_bend x).differentiableAt.differentiableWithinAt
  by_cases h : 0 < slope t
  · have hm : MonotoneOn bend (Set.Ici t) := monotoneOn_of_deriv_nonneg (convex_Ici _) (hcont _) (hdiff _) fun x hx => by
      rw [interior_Ici, Set.mem_Ioi] at hx
      rw [(hasDerivAt_bend x).deriv]
      exact (slope_pos_mono hx.le h).le
    exact (hm (Set.mem_Ici.mpr le_rfl) (Set.mem_Ici.mpr htb) htb).trans (le_max_right _ _)
  · have hm : AntitoneOn bend (Set.Iic t) := antitoneOn_of_deriv_nonpos (convex_Iic _) (hcont _) (hdiff _) fun x hx => by
      rw [interior_Iic, Set.mem_Iio] at hx
      rw [(hasDerivAt_bend x).deriv]
      by_contra hx'
      exact h (slope_pos_mono hx.le (not_le.mp hx'))
    exact (hm (Set.mem_Iic.mpr hat) (Set.mem_Iic.mpr le_rfl) hat).trans (le_max_left _ _)

/-! ## The GELU on the extended reals -/

/-- `1/√2`. -/
def root : ℝ := 1 / Real.sqrt 2

theorem root_pos : 0 < root := by unfold root; positivity

/-- The GELU: `t (1/2 + 1/2 erf (t/√2))`. -/
def gelu (t : EReal) : EReal := t * (((1 / 2 : ℝ) : EReal) + ((1 / 2 : ℝ) : EReal) * Ideal.erf (t * (root : EReal)))

/-- The error function is a real at every extended real. -/
theorem erf_real (x : EReal) : ∃ v : ℝ, Ideal.erf x = (v : EReal) := by
  induction x with
  | bot => exact ⟨-1, by rw [Ideal.erf_bot]; simp⟩
  | top => exact ⟨1, by rw [Ideal.erf_top]; simp⟩
  | coe r => exact ⟨_, Ideal.erf_coe r⟩

/-- The complementary error function's spelling of the GELU. -/
theorem gelu_eq_erfc (t : EReal) :
    ((1 / 2 : ℝ) : EReal) * t * Ideal.erfc (Ideal.div (-t) ((Real.sqrt 2 : ℝ) : EReal)) = gelu t := by
  have h2 : Real.sqrt 2 ≠ 0 := by positivity
  rw [Ideal.div_coe h2, EReal.neg_mul, Ideal.erfc_neg]
  show _ * t * (1 + Ideal.erf (t * (root : EReal))) = t * _
  obtain ⟨v, hv⟩ := erf_real (t * (root : EReal))
  rw [hv, mul_comm _ t, mul_assoc, ← EReal.coe_one, ← EReal.coe_add, ← EReal.coe_mul, ← EReal.coe_mul, ← EReal.coe_add]
  congr 2
  ring

theorem gelu_coe (r : ℝ) : gelu (r : EReal) = ((bend (r * root) / (2 * root) : ℝ) : EReal) := by
  have hr := root_pos.ne'
  unfold gelu
  rw [← EReal.coe_mul, Ideal.erf_coe]
  change (r : EReal) * (_ + _ * ((er (r * root) : ℝ) : EReal)) = _
  rw [← EReal.coe_mul, ← EReal.coe_add, ← EReal.coe_mul]
  congr 1
  unfold bend
  field_simp

theorem gelu_bot : gelu ⊥ = 0 := by
  unfold gelu
  rw [EReal.bot_mul_coe_of_pos root_pos, Ideal.erf_bot]
  have : ((1 / 2 : ℝ) : EReal) + ((1 / 2 : ℝ) : EReal) * -1 = 0 := by
    rw [← EReal.coe_one, ← EReal.coe_neg, ← EReal.coe_mul, ← EReal.coe_add, ← EReal.coe_zero]
    congr 1; norm_num
  rw [this, mul_zero]

theorem gelu_top : gelu ⊤ = ⊤ := by
  unfold gelu
  rw [EReal.top_mul_coe_of_pos root_pos, Ideal.erf_top]
  have : ((1 / 2 : ℝ) : EReal) + ((1 / 2 : ℝ) : EReal) * 1 = ((1 : ℝ) : EReal) := by
    rw [← EReal.coe_one, ← EReal.coe_mul, ← EReal.coe_add]
    congr 1; norm_num
  rw [this]
  exact EReal.top_mul_coe_of_pos one_pos

theorem bend_nonpos {s : ℝ} (hs : s ≤ 0) : bend s ≤ 0 := by
  unfold bend
  exact mul_nonpos_of_nonpos_of_nonneg hs (by linarith [neg_one_le_er s])

theorem bend_mono {s t : ℝ} (hs : 0 ≤ s) (hst : s ≤ t) : bend s ≤ bend t := by
  unfold bend
  have h0 : 0 ≤ er s := by rw [← er_zero]; exact er_monotone hs
  exact mul_le_mul hst (by linarith [er_monotone hst]) (by linarith) (hs.trans hst)

/-- Between two extended reals the GELU is nowhere above both ends. -/
theorem gelu_le {a t b : EReal} (hat : a ≤ t) (htb : t ≤ b) : gelu t ≤ max (gelu a) (gelu b) := by
  have hr := root_pos
  induction b with
  | top => rw [gelu_top, max_eq_right le_top]; exact le_top
  | bot =>
    have : t = ⊥ := le_bot_iff.mp htb
    rw [this]; exact le_max_right _ _
  | coe b =>
    induction t with
    | top => exact absurd htb (by simp)
    | bot =>
      have : a = ⊥ := le_bot_iff.mp hat
      rw [this]; exact le_max_left _ _
    | coe t =>
      have htb' : t ≤ b := EReal.coe_le_coe_iff.mp htb
      induction a with
      | top => exact absurd hat (by simp)
      | bot =>
        rw [gelu_bot, gelu_coe, gelu_coe]
        rcases le_total t 0 with h | h
        · refine le_trans ?_ (le_max_left _ _)
          rw [← EReal.coe_zero, EReal.coe_le_coe_iff]
          exact div_nonpos_of_nonpos_of_nonneg (bend_nonpos (mul_nonpos_of_nonpos_of_nonneg h hr.le)) (by linarith)
        · refine le_trans ?_ (le_max_right _ _)
          rw [EReal.coe_le_coe_iff]
          exact div_le_div_of_nonneg_right (bend_mono (mul_nonneg h hr.le) (mul_le_mul_of_nonneg_right htb' hr.le)) (by linarith)
      | coe a =>
        have hat' : a ≤ t := EReal.coe_le_coe_iff.mp hat
        rw [gelu_coe, gelu_coe, gelu_coe]
        rcases le_max_iff.mp (bend_le (mul_le_mul_of_nonneg_right hat' hr.le) (mul_le_mul_of_nonneg_right htb' hr.le)) with h | h
        · refine le_trans ?_ (le_max_left _ _)
          rw [EReal.coe_le_coe_iff]
          exact div_le_div_of_nonneg_right h (by linarith)
        · refine le_trans ?_ (le_max_right _ _)
          rw [EReal.coe_le_coe_iff]
          exact div_le_div_of_nonneg_right h (by linarith)

/-- The greatest GELU over a nonempty finite family is the greater of the GELUs of its greatest and its least member. -/
theorem sup_gelu {ι : Type} [Fintype ι] [Nonempty ι] (a : ι → EReal) :
    (Finset.univ.sup fun i => gelu (a i)) = max (gelu (Finset.univ.sup a)) (gelu (Finset.univ.inf a)) := by
  have hne : (Finset.univ : Finset ι).Nonempty := Finset.univ_nonempty
  apply le_antisymm
  · refine Finset.sup_le fun i hi => ?_
    rw [max_comm]
    exact gelu_le (Finset.inf_le hi) (Finset.le_sup hi)
  · obtain ⟨i, hi, e⟩ := Finset.exists_mem_eq_sup _ hne a
    obtain ⟨j, hj, e'⟩ := Finset.exists_mem_eq_inf _ hne a
    rw [e, e']
    exact max_le (Finset.le_sup (f := fun i => gelu (a i)) hi) (Finset.le_sup (f := fun i => gelu (a i)) hj)

end

end Cert.Gelu
-- ==== Proof.Spec.lean ====
/-
  What both programs compute, in plain sums over coordinates: the point encoder, its greatest value over a cloud, and the decoder.
-/
module

public import proofs.«01_k».proof.Proof.Gelu
public import Idealize.ShloMosaic.Lib.Pointwise

@[expose] public section

noncomputable section

namespace Cert.Spec

open Idealize.ShloMosaic Cert.Gelu

/-- An affine layer at one row: the products of the row with a column, summed, and the bias. -/
def affine {n k : Nat} (W : Fin n → Fin k → EReal) (B : Fin k → EReal) (v : Fin n → EReal) (j : Fin k) : EReal :=
  (∑ i : Fin n, v i * W i j) + B j

/-- An affine layer of the GELUs of a row. -/
def dense {n k : Nat} (W : Fin n → Fin k → EReal) (B : Fin k → EReal) (v : Fin n → EReal) (j : Fin k) : EReal :=
  affine W B (fun i => gelu (v i)) j

/-- The three layers of the encoder, before the last GELU, at a point. -/
def features (W1 : Fin 3 → Fin 128 → EReal) (B1 : Fin 128 → EReal) (W2 : Fin 128 → Fin 128 → EReal) (B2 : Fin 128 → EReal)
    (W3 : Fin 128 → Fin 128 → EReal) (B3 : Fin 128 → EReal) (p : Fin 3 → EReal) : Fin 128 → EReal :=
  dense W3 B3 (dense W2 B2 (affine W1 B1 p))

/-- The three layers of the decoder at a code. -/
def decode (W1 : Fin 128 → Fin 128 → EReal) (B1 : Fin 128 → EReal) (W2 : Fin 128 → Fin 128 → EReal) (B2 : Fin 128 → EReal)
    (W3 : Fin 128 → Fin 3000 → EReal) (B3 : Fin 3000 → EReal) (z : Fin 128 → EReal) : Fin 3000 → EReal :=
  dense W3 B3 (dense W2 B2 (affine W1 B1 z))

/-- The pattern of one half. -/
theorem half_bits : Ideal.ofBits .f32 0x3F000000#32 = ((1 / 2 : ℝ) : EReal) := by
  simp [Ideal.ofBits, Ideal.ieee, -EReal.coe_mul]; norm_num

/-- The pattern of two. -/
theorem two_bits : Ideal.ofBits .f32 0x40000000#32 = ((2 : ℝ) : EReal) := by
  simp [Ideal.ofBits, Ideal.ieee, -EReal.coe_mul]; norm_num

theorem top_bits : Ideal.ofBits .f32 0x7F800000#32 = ⊤ := by simp [Ideal.ofBits, Ideal.ieee]

theorem bot_bits : Ideal.ofBits .f32 0xFF800000#32 = ⊥ := by simp [Ideal.ofBits, Ideal.ieee]

theorem sqrt_two : Ideal.sqrt ((2 : ℝ) : EReal) = ((Real.sqrt 2 : ℝ) : EReal) := by
  show (if (2 : ℝ) < 0 then ⊥ else ((Real.sqrt 2 : ℝ) : EReal)) = _
  rw [if_neg (by norm_num)]

/-- The greatest of a finite family, from `⊥` on. -/
theorem fold_max {n : Nat} (f : Fin n → EReal) : Finset.univ.fold max ⊥ f = Finset.univ.sup f := rfl

/-- The least of a finite family, from `⊤` on. -/
theorem fold_min {n : Nat} (f : Fin n → EReal) : Finset.univ.fold min ⊤ f = Finset.univ.inf f := rfl

end Cert.Spec

end
-- ==== Proof.KernelValue.lean ====
/-
  The idealized kernel's payloads read at an index.
-/
module

public import proofs.«01_k».proof.Proof.Spec
public import proofs.«01_k».proof.Proof.EndIdeal

@[expose] public section

noncomputable section

namespace Cert.KernelIdeal.Read

open Idealize.ShloMosaic Cert.Gelu Cert.Spec Cert.KernelIdeal Cert.KernelIdeal.Gen

/-- The named constant is `1/√2`. -/
theorem named_root : (Named.named κ "inv_sqrt_two" 0x3F3504F3#32 : Ideal .f32) = (root : EReal) := by
  rw [IdealRules.named_const.ideal_named_scalar _ _ _ _ rfl]
  unfold root
  rw [one_div]

set_option maxRecDepth 16384 in
/-- The encoder's layers at row `n` of cloud `r` of a block. -/
theorem pay2_apply (x : Vec Ideal S8192x3 .f32) (W1 : Vec Ideal S3x128 .f32) (B1 : Vec Ideal S1x128 .f32) (W2 : Vec Ideal S128x128 .f32)
    (B2 : Vec Ideal S1x128 .f32) (W3 : Vec Ideal S128x128 .f32) (B3 : Vec Ideal S1x128 .f32) (r : Fin 4) (n : Fin 2048) (j : Fin 128) :
    k0_pay2 x W1 B1 W2 B2 W3 B3 (ix3 r n j)
      = features (fun i k => W1 (ix2 i k)) (fun k => B1 (ix2 0 k)) (fun i k => W2 (ix2 i k)) (fun k => B2 (ix2 0 k))
          (fun i k => W3 (ix2 i k)) (fun k => B3 (ix2 0 k)) (fun i => x (ix2 ⟨r.val * 2048 + n.val, by omega⟩ i)) j := by
  pointwise [k0_pay2]
  simp only [named_root, half_bits, bot_bits, top_bits]
  rfl

set_option maxRecDepth 16384 in
/-- The greater of the GELUs of the greatest and the least feature. -/
theorem pay1_apply (v : FVec Ideal S4x2048x128 .f32) (r : Fin 4) (j : Fin 128) :
    k0_pay1 v (ix2 r j) = max (gelu (Finset.univ.sup fun n : Fin 2048 => v (ix3 r n j))) (gelu (Finset.univ.inf fun n : Fin 2048 => v (ix3 r n j))) := by
  pointwise [k0_pay1]
  simp only [named_root, half_bits, bot_bits, top_bits]
  rfl

set_option maxRecDepth 16384 in
/-- The decoder's layers at a row. -/
theorem pay3_apply (z : Vec Ideal S16x128 .f32) (W1 : Vec Ideal S128x128 .f32) (B1 : Vec Ideal S1x128 .f32) (W2 : Vec Ideal S128x128 .f32)
    (B2 : Vec Ideal S1x128 .f32) (W3 : Vec Ideal S128x3000 .f32) (B3 : Vec Ideal S1x3000 .f32) (b : Fin 16) (j : Fin 3000) :
    k0_pay3 z W1 B1 W2 B2 W3 B3 (ix2 b j)
      = decode (fun i k => W1 (ix2 i k)) (fun k => B1 (ix2 0 k)) (fun i k => W2 (ix2 i k)) (fun k => B2 (ix2 0 k))
          (fun i k => W3 (ix2 i k)) (fun k => B3 (ix2 0 k)) (fun i => z (ix2 b i)) j := by
  pointwise [k0_pay3]
  simp only [named_root, half_bits, bot_bits, top_bits]
  rfl

end Cert.KernelIdeal.Read

end
-- ==== Proof.KernelCodes.lean ====
/-
  What the idealized kernel's two results hold, at the contents its arguments have when it is launched.
-/
module

public import proofs.«01_k».proof.Proof.KernelValue
public import Idealize.ShloMosaic.Lib.Pipeline.ValueKit
public import Idealize.ShloMosaic.Lib.Claim

@[expose] public section

noncomputable section

namespace Cert.KernelIdeal.Read

open Idealize.ShloMosaic Idealize.ShloMosaic.TcCoe Cert.Gelu Cert.Spec Cert.KernelIdeal Cert.KernelIdeal.Gen Cert.KernelIdeal.Body

theorem features_congr {W1 W1' : Fin 3 → Fin 128 → EReal} {B1 B1' : Fin 128 → EReal} {W2 W2' : Fin 128 → Fin 128 → EReal} {B2 B2' : Fin 128 → EReal}
    {W3 W3' : Fin 128 → Fin 128 → EReal} {B3 B3' : Fin 128 → EReal} {p p' : Fin 3 → EReal} (h1 : W1 = W1') (h2 : B1 = B1') (h3 : W2 = W2')
    (h4 : B2 = B2') (h5 : W3 = W3') (h6 : B3 = B3') (h : p = p') (j : Fin 128) :
    features W1 B1 W2 B2 W3 B3 p j = features W1' B1' W2' B2' W3' B3' p' j := by
  rw [h1, h2, h3, h4, h5, h6, h]

theorem decode_congr {W1 W1' : Fin 128 → Fin 128 → EReal} {B1 B1' : Fin 128 → EReal} {W2 W2' : Fin 128 → Fin 128 → EReal} {B2 B2' : Fin 128 → EReal}
    {W3 W3' : Fin 128 → Fin 3000 → EReal} {B3 B3' : Fin 3000 → EReal} {z z' : Fin 128 → EReal} (h1 : W1 = W1') (h2 : B1 = B1') (h3 : W2 = W2')
    (h4 : B2 = B2') (h5 : W3 = W3') (h6 : B3 = B3') (h : z = z') (j : Fin 3000) :
    decode W1 B1 W2 B2 W3 B3 z j = decode W1' B1' W2' B2' W3' B3' z' j := by
  rw [h1, h2, h3, h4, h5, h6, h]

variable (m : (ℓ : Loc nD τ sig) → Buf (Elt Ideal) ℓ)

/-- The block of the points' window at each point of the grid: the last point keeps the one before. -/
theorem index0 : ∀ t : Fin cfg0.N, win0_0.index t = ![min t.val 3, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![0, 0] := by decide +kernel

set_option maxRecDepth 16384

/-! The operands the host reshapes before the kernel runs. -/

theorem entry0 (c : Dev nD) : V m c main_call0_v0 = shapeCast S32768x3 (m ((c.tc : Thread nD τ).loc main_arg0)) (by decide : S16x2048x3.ShapeCasts S32768x3) := by
  show StableHlo.after hostOps0 _ _ = _
  after_results_simp <;> rfl
theorem entry1 (c : Dev nD) : V m c main_call0_v1 = shapeCast S1x128 (m ((c.tc : Thread nD τ).loc main_arg2)) (by decide : S128.ShapeCasts S1x128) := by
  show StableHlo.after hostOps0 _ _ = _
  after_results_simp <;> rfl
theorem entry2 (c : Dev nD) : V m c main_call0_v2 = shapeCast S1x128 (m ((c.tc : Thread nD τ).loc main_arg4)) (by decide : S128.ShapeCasts S1x128) := by
  show StableHlo.after hostOps0 _ _ = _
  after_results_simp <;> rfl
theorem entry3 (c : Dev nD) : V m c main_call0_v3 = shapeCast S1x128 (m ((c.tc : Thread nD τ).loc main_arg6)) (by decide : S128.ShapeCasts S1x128) := by
  show StableHlo.after hostOps0 _ _ = _
  after_results_simp <;> rfl
theorem entry4 (c : Dev nD) : V m c main_call0_v4 = shapeCast S1x128 (m ((c.tc : Thread nD τ).loc main_arg8)) (by decide : S128.ShapeCasts S1x128) := by
  show StableHlo.after hostOps0 _ _ = _
  after_results_simp <;> rfl
theorem entry5 (c : Dev nD) : V m c main_call0_v5 = shapeCast S1x128 (m ((c.tc : Thread nD τ).loc main_arg10)) (by decide : S128.ShapeCasts S1x128) := by
  show StableHlo.after hostOps0 _ _ = _
  after_results_simp <;> rfl
theorem entry6 (c : Dev nD) : V m c main_call0_v6 = shapeCast S1x3000 (m ((c.tc : Thread nD τ).loc main_arg12)) (by decide : S3000.ShapeCasts S1x3000) := by
  show StableHlo.after hostOps0 _ _ = _
  after_results_simp <;> rfl

/-- A cloud's points as rows of one table. -/
theorem rows_apply (x : FVec Ideal S16x2048x3 .f32) (h : S16x2048x3.ShapeCasts S32768x3) (i : Fin 32768) (k : Fin 3) :
    shapeCast S32768x3 x h (ix2 i k) = x (ix3 (⟨i.val / 2048, by omega⟩ : Fin 16) (⟨i.val % 2048, by omega⟩ : Fin 2048) k) := by
  pointwise

/-- The points' window holds four clouds. -/
theorem points_apply (c : Dev nD) (t : Fin cfg0.N) (ht : t.val < 4) (r : Fin 4) (n : Fin 2048) (k : Fin 3) :
    iblk m c 0 t (ix2 (⟨r.val * 2048 + n.val, by omega⟩ : Fin 8192) k)
      = m ((c.tc : Thread nD τ).loc main_arg0) (ix3 (⟨t.val * 4 + r.val, by omega⟩ : Fin 16) n k) := by
  have ht' : min t.val 3 = t.val := by omega
  have e : (win0_0.blk t).view.emb (ix2 (⟨r.val * 2048 + n.val, by omega⟩ : Fin 8192) k)
      = ix2 (⟨t.val * 8192 + r.val * 2048 + n.val, by omega⟩ : Fin 32768) k := by
    blk_ext [index0, ht']
  show V m c main_call0_v0 ((win0_0.blk t).view.emb (ix2 (⟨r.val * 2048 + n.val, by omega⟩ : Fin 8192) k)) = _
  rw [e, entry0]
  refine (rows_apply _ _ _ _).trans ?_
  have h0 : (t.val * 8192 + r.val * 2048 + n.val) / 2048 = t.val * 4 + r.val := by omega
  have h1 : (t.val * 8192 + r.val * 2048 + n.val) % 2048 = n.val := by omega
  have e0 : (⟨(t.val * 8192 + r.val * 2048 + n.val) / 2048, by omega⟩ : Fin 16) = ⟨t.val * 4 + r.val, by omega⟩ := Fin.ext h0
  have e1 : (⟨(t.val * 8192 + r.val * 2048 + n.val) % 2048, by omega⟩ : Fin 2048) = n := Fin.ext h1
  show m ((c.tc : Thread nD τ).loc main_arg0) (ix3 (⟨(t.val * 8192 + r.val * 2048 + n.val) / 2048, by omega⟩ : Fin 16)
    (⟨(t.val * 8192 + r.val * 2048 + n.val) % 2048, by omega⟩ : Fin 2048) k) = _
  rw [e0, e1]

theorem weights1_apply (c : Dev nD) (t : Fin cfg0.N) (i : Fin 3) (j : Fin 128) :
    iblk m c 1 t (ix2 i j) = m ((c.tc : Thread nD τ).loc main_arg1) (ix2 i j) := by
  blk_ext! [iblk, V, index1]

theorem weights3_apply (c : Dev nD) (t : Fin cfg0.N) (i : Fin 128) (j : Fin 128) :
    iblk m c 3 t (ix2 i j) = m ((c.tc : Thread nD τ).loc main_arg3) (ix2 i j) := by
  blk_ext! [iblk, V, index3]

theorem weights5_apply (c : Dev nD) (t : Fin cfg0.N) (i : Fin 128) (j : Fin 128) :
    iblk m c 5 t (ix2 i j) = m ((c.tc : Thread nD τ).loc main_arg5) (ix2 i j) := by
  blk_ext! [iblk, V, index5]

theorem weights7_apply (c : Dev nD) (t : Fin cfg0.N) (i : Fin 128) (j : Fin 128) :
    iblk m c 7 t (ix2 i j) = m ((c.tc : Thread nD τ).loc main_arg7) (ix2 i j) := by
  blk_ext! [iblk, V, index7]

theorem weights9_apply (c : Dev nD) (t : Fin cfg0.N) (i : Fin 128) (j : Fin 128) :
    iblk m c 9 t (ix2 i j) = m ((c.tc : Thread nD τ).loc main_arg9) (ix2 i j) := by
  blk_ext! [iblk, V, index9]

theorem bias2_apply (c : Dev nD) (t : Fin cfg0.N) (j : Fin 128) :
    iblk m c 2 t (ix2 (0 : Fin 1) j) = m ((c.tc : Thread nD τ).loc main_arg2) (ix1 j) := by
  have e : (win0_2.blk t).view.emb (ix2 (0 : Fin 1) j) = ix2 (0 : Fin 1) j := by
    blk_ext [index2]
  show V m c main_call0_v1 ((win0_2.blk t).view.emb (ix2 (0 : Fin 1) j)) = _
  rw [e, entry1]
  pointwise

theorem bias4_apply (c : Dev nD) (t : Fin cfg0.N) (j : Fin 128) :
    iblk m c 4 t (ix2 (0 : Fin 1) j) = m ((c.tc : Thread nD τ).loc main_arg4) (ix1 j) := by
  have e : (win0_4.blk t).view.emb (ix2 (0 : Fin 1) j) = ix2 (0 : Fin 1) j := by
    blk_ext [index4]
  show V m c main_call0_v2 ((win0_4.blk t).view.emb (ix2 (0 : Fin 1) j)) = _
  rw [e, entry2]
  pointwise

theorem bias6_apply (c : Dev nD) (t : Fin cfg0.N) (j : Fin 128) :
    iblk m c 6 t (ix2 (0 : Fin 1) j) = m ((c.tc : Thread nD τ).loc main_arg6) (ix1 j) := by
  have e : (win0_6.blk t).view.emb (ix2 (0 : Fin 1) j) = ix2 (0 : Fin 1) j := by
    blk_ext [index6]
  show V m c main_call0_v3 ((win0_6.blk t).view.emb (ix2 (0 : Fin 1) j)) = _
  rw [e, entry3]
  pointwise

theorem bias8_apply (c : Dev nD) (t : Fin cfg0.N) (j : Fin 128) :
    iblk m c 8 t (ix2 (0 : Fin 1) j) = m ((c.tc : Thread nD τ).loc main_arg8) (ix1 j) := by
  have e : (win0_8.blk t).view.emb (ix2 (0 : Fin 1) j) = ix2 (0 : Fin 1) j := by
    blk_ext [index8]
  show V m c main_call0_v4 ((win0_8.blk t).view.emb (ix2 (0 : Fin 1) j)) = _
  rw [e, entry4]
  pointwise

theorem bias10_apply (c : Dev nD) (t : Fin cfg0.N) (j : Fin 128) :
    iblk m c 10 t (ix2 (0 : Fin 1) j) = m ((c.tc : Thread nD τ).loc main_arg10) (ix1 j) := by
  have e : (win0_10.blk t).view.emb (ix2 (0 : Fin 1) j) = ix2 (0 : Fin 1) j := by
    blk_ext [index10]
  show V m c main_call0_v5 ((win0_10.blk t).view.emb (ix2 (0 : Fin 1) j)) = _
  rw [e, entry5]
  pointwise

theorem bias11_apply (c : Dev nD) (t : Fin cfg0.N) (j : Fin 3000) :
    iblk m c 11 t (ix2 (0 : Fin 1) j) = m ((c.tc : Thread nD τ).loc main_arg12) (ix1 j) := by
  have e : (win0_11.blk t).view.emb (ix2 (0 : Fin 1) j) = ix2 (0 : Fin 1) j := by
    blk_ext [index11]
  show V m c main_call0_v6 ((win0_11.blk t).view.emb (ix2 (0 : Fin 1) j)) = _
  rw [e, entry6]
  pointwise

/-- The two spellings of an index agree. -/
theorem codes_row (c : Dev nD) (b : Fin 16) (j : Fin 128) :
    codes m c (ix2 b j) = encRows m c (⟨b.val / 4, by rw [show cfg0.N = 5 from N_0]; omega⟩ : Fin cfg0.N) (ix2 (⟨b.val % 4, by omega⟩ : Fin 4) j) := by
  unfold codes
  refine congrArg (encRows m c _) ?_
  funext d
  match d with
  | ⟨0, _⟩ => rfl
  | ⟨1, _⟩ => rfl

/-- The kernel's codes: the greatest GELU of a feature over the points of a cloud. -/
theorem codes_apply (c : Dev nD) (b : Fin 16) (j : Fin 128) :
    codes m c (ix2 b j) = Finset.univ.sup fun n : Fin 2048 =>
      gelu (features (fun i k => m ((c.tc : Thread nD τ).loc main_arg1) (ix2 i k)) (fun k => m ((c.tc : Thread nD τ).loc main_arg2) (ix1 k))
        (fun i k => m ((c.tc : Thread nD τ).loc main_arg3) (ix2 i k)) (fun k => m ((c.tc : Thread nD τ).loc main_arg4) (ix1 k))
        (fun i k => m ((c.tc : Thread nD τ).loc main_arg5) (ix2 i k)) (fun k => m ((c.tc : Thread nD τ).loc main_arg6) (ix1 k))
        (fun i => m ((c.tc : Thread nD τ).loc main_arg0) (ix3 b n i)) j) := by
  rw [codes_row]
  set t : Fin cfg0.N := ⟨b.val / 4, by rw [show cfg0.N = 5 from N_0]; omega⟩ with ht
  have htv : t.val = b.val / 4 := rfl
  unfold encRows
  rw [pay1_apply, ← sup_gelu]
  refine congrArg (Finset.univ.sup) (funext fun n => congrArg gelu ?_)
  rw [pay2_apply]
  have hb : (⟨t.val * 4 + b.val % 4, by omega⟩ : Fin 16) = b := Fin.ext (by show b.val / 4 * 4 + b.val % 4 = b.val; omega)
  have hp : (fun i : Fin 3 => iblk m c 0 t (ix2 (⟨b.val % 4 * 2048 + n.val, by omega⟩ : Fin 8192) i))
      = fun i => m ((c.tc : Thread nD τ).loc main_arg0) (ix3 b n i) := by
    funext i
    refine (points_apply m c t (by omega) (⟨b.val % 4, by omega⟩ : Fin 4) n i).trans ?_
    show m ((c.tc : Thread nD τ).loc main_arg0) (ix3 (⟨t.val * 4 + b.val % 4, by omega⟩ : Fin 16) n i) = _
    rw [hb]
  have h1 : (fun (i : Fin 3) (k : Fin 128) => iblk m c 1 t (ix2 i k)) = fun i k => m ((c.tc : Thread nD τ).loc main_arg1) (ix2 i k) :=
    funext fun i => funext fun k => weights1_apply m c t i k
  have h2 : (fun k : Fin 128 => iblk m c 2 t (ix2 (0 : Fin 1) k)) = fun k => m ((c.tc : Thread nD τ).loc main_arg2) (ix1 k) :=
    funext fun k => bias2_apply m c t k
  have h3 : (fun (i : Fin 128) (k : Fin 128) => iblk m c 3 t (ix2 i k)) = fun i k => m ((c.tc : Thread nD τ).loc main_arg3) (ix2 i k) :=
    funext fun i => funext fun k => weights3_apply m c t i k
  have h4 : (fun k : Fin 128 => iblk m c 4 t (ix2 (0 : Fin 1) k)) = fun k => m ((c.tc : Thread nD τ).loc main_arg4) (ix1 k) :=
    funext fun k => bias4_apply m c t k
  have h5 : (fun (i : Fin 128) (k : Fin 128) => iblk m c 5 t (ix2 i k)) = fun i k => m ((c.tc : Thread nD τ).loc main_arg5) (ix2 i k) :=
    funext fun i => funext fun k => weights5_apply m c t i k
  have h6 : (fun k : Fin 128 => iblk m c 6 t (ix2 (0 : Fin 1) k)) = fun k => m ((c.tc : Thread nD τ).loc main_arg6) (ix1 k) :=
    funext fun k => bias6_apply m c t k
  exact features_congr h1 h2 h3 h4 h5 h6 hp j

/-- The last layer's matrix is read whole off its array. -/
theorem whole_apply (c : Dev nD) : hbM.view.read (Elt Ideal) (V m c main_arg11) = m ((c.tc : Thread nD τ).loc main_arg11) :=
  V_main_arg11 m c

/-- The kernel's decoded rows. -/
theorem decoded_apply (c : Dev nD) (t : Fin cfg0.N) (b : Fin 16) (j : Fin 3000) :
    decoded m c t (ix2 b j) =
      decode (fun i k => m ((c.tc : Thread nD τ).loc main_arg7) (ix2 i k)) (fun k => m ((c.tc : Thread nD τ).loc main_arg8) (ix1 k))
        (fun i k => m ((c.tc : Thread nD τ).loc main_arg9) (ix2 i k)) (fun k => m ((c.tc : Thread nD τ).loc main_arg10) (ix1 k))
        (fun i k => m ((c.tc : Thread nD τ).loc main_arg11) (ix2 i k)) (fun k => m ((c.tc : Thread nD τ).loc main_arg12) (ix1 k))
        (fun i => codes m c (ix2 b i)) j := by
  unfold decoded
  rw [whole_apply, pay3_apply]
  have h1 : (fun (i : Fin 128) (k : Fin 128) => iblk m c 7 t (ix2 i k)) = fun i k => m ((c.tc : Thread nD τ).loc main_arg7) (ix2 i k) :=
    funext fun i => funext fun k => weights7_apply m c t i k
  have h2 : (fun k : Fin 128 => iblk m c 8 t (ix2 (0 : Fin 1) k)) = fun k => m ((c.tc : Thread nD τ).loc main_arg8) (ix1 k) :=
    funext fun k => bias8_apply m c t k
  have h3 : (fun (i : Fin 128) (k : Fin 128) => iblk m c 9 t (ix2 i k)) = fun i k => m ((c.tc : Thread nD τ).loc main_arg9) (ix2 i k) :=
    funext fun i => funext fun k => weights9_apply m c t i k
  have h4 : (fun k : Fin 128 => iblk m c 10 t (ix2 (0 : Fin 1) k)) = fun k => m ((c.tc : Thread nD τ).loc main_arg10) (ix1 k) :=
    funext fun k => bias10_apply m c t k
  have h6 : (fun k : Fin 3000 => iblk m c 11 t (ix2 (0 : Fin 1) k)) = fun k => m ((c.tc : Thread nD τ).loc main_arg12) (ix1 k) :=
    funext fun k => bias11_apply m c t k
  exact decode_congr h1 h2 h3 h4 rfl h6 rfl j

end Cert.KernelIdeal.Read

end
-- ==== Proof.Neighbours.lean ====
/-
  The nearest neighbours the reference picks. Among points with finite coordinates the first pick of every point has that point's own
  coordinates: the squared distance of a point to itself is zero and no squared distance is negative.
-/
module

public import proofs.«01_k».proof.Proof.Spec
public import proofs.«01_k».proof.Proof.Gen.ReferenceIdeal.Run
public import Idealize.ShloMosaic.Lib.SortFacts

@[expose] public section

noncomputable section

namespace Cert.Neighbours

open Idealize.ShloMosaic Cert.Spec Cert.ReferenceIdeal Cert.ReferenceIdeal.Gen
open Cert.ReferenceIdeal.Facts

/-- "Greater first" on extended reals. -/
abbrev before {n : Nat} (key : Fin n → EReal) (a a' : Fin n) : Bool :=
  FloatOps.cmpfTotal (F := Ideal) (φ := .f32) .gt (key a) (key a') == 1#1

theorem before_eq {n : Nat} (key : Fin n → EReal) (a a' : Fin n) : before key a a' = decide (key a' < key a) := by
  unfold before
  rw [Ideal.cmpfTotal_def]
  show (BitVec.ofBool (decide (key a' < key a)) == 1#1) = _
  by_cases h : key a' < key a <;> simp [h]

/-- The first position of the sort holds a greatest key. -/
theorem first_greatest {n : Nat} (key : Fin n → EReal) (h0 : 0 < n) (m : Fin n) : key m ≤ key (sortedFrom (before key) ⟨0, h0⟩) := by
  obtain ⟨i, rfl⟩ := sortedFrom_surjective (before key) m
  rcases Nat.eq_zero_or_pos i.val with hi | hi
  · have : i = ⟨0, h0⟩ := Fin.ext hi
    rw [this]
  · have h := sortedFrom_noInversion (before key) (before key)
      (fun a b hab => by rw [before_eq, decide_eq_true_eq] at hab; rw [before_eq, decide_eq_false_iff_not]; exact not_lt.mpr hab.le)
      (fun _ _ hab => hab)
      (fun a b c hab hbc => by
        rw [before_eq, decide_eq_false_iff_not, not_lt] at hab hbc ⊢
        exact hab.trans hbc)
      ⟨0, h0⟩ i hi
    rw [before_eq, decide_eq_false_iff_not, not_lt] at h
    exact h

/-- The picked positions, read at an index. -/
theorem topK_index (x : FVec Ideal S16x2048x2048 .f32) (b : Fin 16) (n : Fin 2048) (k : Fin 8) :
    (Host.topK S16x2048x8 2 (FloatOps.cmpfTotal .gt) x sliceFits_S16x2048x2048_S16x2048x8).2 (ix3 b n k)
      = BitVec.ofNat 32 (sortedFrom (before fun a : Fin 2048 => x (ix3 b n a)) ⟨k.val, by omega⟩).val := by
  have hd : 2 < S16x2048x2048.rank := by decide
  have e : ∀ (j : S16x2048x2048.Idx), j 0 = b → j 1 = n → ∀ a : Fin 2048, (j.along ⟨2, hd⟩ a) = ix3 b n a := by
    intro j h0 h1 a
    funext d
    match d with
    | ⟨0, _⟩ => exact h0
    | ⟨1, _⟩ => exact h1
    | ⟨2, _⟩ => rfl
  unfold Host.topK Host.sort2 extractStridedSlice
  simp only [dif_pos hd]
  unfold iotaInDim
  set j : S16x2048x2048.Idx := fun a => ⟨0 + (ix3 b n k (a.cast sliceFits_S16x2048x2048_S16x2048x8.1.symm)).val, _⟩ with hj
  have h0 : j 0 = b := Fin.ext (Nat.zero_add _)
  have h1 : j 1 = n := Fin.ext (Nat.zero_add _)
  have h2 : j ⟨2, hd⟩ = (⟨k.val, by omega⟩ : Fin 2048) := Fin.ext (Nat.zero_add _)
  have e' := e j h0 h1
  have e2 : ∀ f : Fin 2048 → Fin 2048 → Bool, (j.along ⟨2, hd⟩ (sortedFrom f (j ⟨2, hd⟩))) ⟨2, hd⟩ = sortedFrom f (j ⟨2, hd⟩) := fun f => Function.update_self _ _ _
  refine (congrArg (fun i : Fin 2048 => BitVec.ofNat 32 i.val) (e2 _)).trans ?_
  rw [h2]
  refine congrArg (fun f => BitVec.ofNat 32 (sortedFrom f (⟨k.val, by omega⟩ : Fin 2048)).val) ?_
  funext a a'
  show (FloatOps.cmpfTotal CmpDirection.gt (x (j.along ⟨2, hd⟩ a)) (x (j.along ⟨2, hd⟩ a')) == 1#1) = _
  rw [e' a, e' a']

/-- The negated squared distances of the points of a cloud. -/
def dists (x : FVec Ideal S16x2048x3 .f32) : FVec Ideal S16x2048x2048 .f32 :=
  Host.negf (subf (addf (broadcastInDim S16x2048x2048 ![0, 1, 2] bcast_S16x2048x1_S16x2048x2048_0_1_2 (broadcastInDim S16x2048x1 ![0, 1] bcast_S16x2048_S16x2048x1_0_1 (Host.reduceAdd (mulf x x) (constant S_ .f32 0x00000000#32) reducesTo_S16x2048x3_S16x2048_d2 h_S_))) (broadcastInDim S16x2048x2048 ![0, 1, 2] bcast_S16x1x2048_S16x2048x2048_0_1_2 (broadcastInDim S16x1x2048 ![0, 2] bcast_S16x2048_S16x1x2048_0_2 (Host.reduceAdd (mulf x x) (constant S_ .f32 0x00000000#32) reducesTo_S16x2048x3_S16x2048_d2 h_S_)))) (mulf (broadcastInDim S16x2048x2048 ![] bcast_S_S16x2048x2048 (constant S_ .f32 0x40000000#32)) (Host.dotGeneral dot_S16x2048x3_S16x2048x3_S16x2048x2048_2_2_1_1_0_0 none x x)))

set_option maxRecDepth 16384 in
/-- At finite coordinates they are what their name says. -/
theorem dists_apply (x : FVec Ideal S16x2048x3 .f32) (y : Fin 16 → Fin 2048 → Fin 3 → ℝ) (hy : ∀ b n k, x (ix3 b n k) = (y b n k : EReal))
    (b : Fin 16) (n m : Fin 2048) : dists x (ix3 b n m) = ((-∑ k : Fin 3, (y b n k - y b m k) ^ 2 : ℝ) : EReal) := by
  pointwise [dists]
  simp only [hy, two_bits, Fin.sum_univ_three, ← EReal.coe_mul, ← EReal.coe_add, ← EReal.coe_sub, ← EReal.coe_neg]
  refine (EReal.coe_eq_coe_iff).mpr ?_
  ring

/-- The point the reference gathers in place `k` for point `n` of cloud `b`. -/
def pick (x : FVec Ideal S16x2048x3 .f32) (b : Fin 16) (n : Fin 2048) (k : Fin 8) : Fin 2048 :=
  sortedFrom (before fun a : Fin 2048 => dists x (ix3 b n a)) ⟨k.val, by omega⟩

/-- The first pick of a point has the point's coordinates. -/
theorem pick_zero (x : FVec Ideal S16x2048x3 .f32) (y : Fin 16 → Fin 2048 → Fin 3 → ℝ) (hy : ∀ b n k, x (ix3 b n k) = (y b n k : EReal))
    (b : Fin 16) (n : Fin 2048) (c : Fin 3) : x (ix3 b (pick x b n 0) c) = x (ix3 b n c) := by
  have h := first_greatest (fun a : Fin 2048 => dists x (ix3 b n a)) (by decide) n
  change dists x (ix3 b n n) ≤ dists x (ix3 b n (pick x b n 0)) at h
  rw [dists_apply x y hy, dists_apply x y hy, EReal.coe_le_coe_iff] at h
  simp only [sub_self, Fin.sum_univ_three] at h
  rw [hy, hy]
  refine (EReal.coe_eq_coe_iff).mpr ?_
  set m := pick x b n 0
  have h0 := sq_nonneg (y b n 0 - y b m 0)
  have h1 := sq_nonneg (y b n 1 - y b m 1)
  have h2 := sq_nonneg (y b n 2 - y b m 2)
  have hz : ∀ c : Fin 3, (y b n c - y b m c) ^ 2 = 0 := by
    intro c
    match c with
    | ⟨0, _⟩ => show (y b n 0 - y b m 0) ^ 2 = 0; linarith
    | ⟨1, _⟩ => show (y b n 1 - y b m 1) ^ 2 = 0; linarith
    | ⟨2, _⟩ => show (y b n 2 - y b m 2) ^ 2 = 0; linarith
  have := pow_eq_zero_iff (two_ne_zero) |>.mp (hz c)
  linarith

/-- The gather read at an index: a row of the cloud, at a start clamped into it. -/
theorem gather_apply (x : FVec Ideal S16x2048x3 .f32) (idx : IVec S16x2048x8x1 32) (b : Fin 16) (n : Fin 2048) (k : Fin 8) (c : Fin 3) :
    Host.gather gather_S16x2048x3_S16x2048x8x1_S16x2048x8x3_3_1_0_0_1_3_113 x idx (ix4 b n k c)
      = x (ix3 b ⟨min (idx (ix4 b n k 0)).toInt.toNat 2047, by omega⟩ c) := by
  unfold Host.gather
  congr 1
  funext a
  refine Fin.ext ?_
  set g := gather_S16x2048x3_S16x2048x8x1_S16x2048x8x3_3_1_0_0_1_3_113
  show GatherDims.start _ (ix4 b n k c) idx a + GatherDims.batchCoord _ (ix4 b n k c) a + GatherDims.offCoord _ (ix4 b n k c) a = _
  match a with
  | ⟨0, _⟩ =>
    change GatherDims.start g (ix4 b n k c) idx (0 : Fin 3) + GatherDims.batchCoord g (ix4 b n k c) (0 : Fin 3) + GatherDims.offCoord g (ix4 b n k c) (0 : Fin 3) = _
    have hs : (0 : Fin 3) ∉ g.startIndexMap := by decide
    have hb : (0 : Fin 3) ∈ g.operandBatchingDims := by decide
    have ho : (0 : Fin 3) ∉ g.sKept := by decide
    rw [GatherDims.offCoord_eq_zero _ _ _ ho]
    unfold GatherDims.start GatherDims.batchCoord
    rw [dif_neg hs, dif_pos hb]
    simp only [Nat.zero_add, Nat.add_zero]
    rfl
  | ⟨1, _⟩ =>
    change GatherDims.start g (ix4 b n k c) idx (1 : Fin 3) + GatherDims.batchCoord g (ix4 b n k c) (1 : Fin 3) + GatherDims.offCoord g (ix4 b n k c) (1 : Fin 3) = _
    have hs : (1 : Fin 3) ∈ g.startIndexMap := by decide
    have hb : (1 : Fin 3) ∉ g.operandBatchingDims := by decide
    have ho : (1 : Fin 3) ∉ g.sKept := by decide
    rw [GatherDims.batchCoord_eq_zero _ _ _ hb, GatherDims.offCoord_eq_zero _ _ _ ho]
    unfold GatherDims.start
    rw [dif_pos hs]
    have hsi : g.siIdx (ix4 b n k c) ⟨List.idxOf (1 : Fin 3) g.startIndexMap, List.idxOf_lt_length_iff.2 hs⟩ = ix4 b n k 0 := by
      funext e
      refine Fin.ext ?_
      match e with
      | ⟨0, _⟩ => rfl
      | ⟨1, _⟩ => rfl
      | ⟨2, _⟩ => rfl
      | ⟨3, _⟩ => rfl
    rw [hsi]
    rfl
  | ⟨2, _⟩ =>
    change GatherDims.start g (ix4 b n k c) idx (2 : Fin 3) + GatherDims.batchCoord g (ix4 b n k c) (2 : Fin 3) + GatherDims.offCoord g (ix4 b n k c) (2 : Fin 3) = _
    have hs : (2 : Fin 3) ∉ g.startIndexMap := by decide
    have hb : (2 : Fin 3) ∉ g.operandBatchingDims := by decide
    have ho : (2 : Fin 3) ∈ g.sKept := by decide
    rw [GatherDims.batchCoord_eq_zero _ _ _ hb]
    unfold GatherDims.start GatherDims.offCoord
    rw [dif_neg hs, dif_pos ho]
    simp only [Nat.zero_add]
    rfl

/-- The reference's positions as it prepares them for the gather: one below zero counts from the end. -/
def prepared (idx : IVec S16x2048x8 32) : IVec S16x2048x8x1 32 :=
  broadcastInDim S16x2048x8x1 ![0, 1, 2] bcast_S16x2048x8_S16x2048x8x1_0_1_2 (select (cmpi .slt idx (broadcastInDim S16x2048x8 ![] bcast_S_S16x2048x8 (constantI S_ 32 0#32))) (addi idx (broadcastInDim S16x2048x8 ![] bcast_S_S16x2048x8 (constantI S_ 32 2048#32))) idx)

theorem toInt_position (m : Fin 2048) : (BitVec.ofNat 32 m.val).toInt = m.val := by
  have h : (BitVec.ofNat 32 m.val).toNat = m.val := by rw [BitVec.toNat_ofNat]; exact Nat.mod_eq_of_lt (by omega)
  rw [BitVec.toInt_eq_toNat_of_lt (by rw [h]; omega), h]

theorem not_below_zero (m : Fin 2048) : (BitVec.ofNat 32 m.val).slt 0#32 = false := by
  rw [BitVec.slt_eq_decide, decide_eq_false_iff_not, toInt_position, BitVec.toInt_zero]
  omega

/-- A position below 2048 is left alone, and the gather reads it as itself. -/
theorem prepared_apply (idx : IVec S16x2048x8 32) (b : Fin 16) (n : Fin 2048) (k : Fin 8) (m : Fin 2048)
    (h : idx (ix3 b n k) = BitVec.ofNat 32 m.val) : min (prepared idx (ix4 b n k 0)).toInt.toNat 2047 = m.val := by
  have e : prepared idx (ix4 b n k 0) = BitVec.ofNat 32 m.val := by
    pointwise [prepared]
    rw [h]
    have := not_below_zero m
    simp [Scalar.select, IntOp.cmpi, this]
  rw [e, toInt_position]
  omega

/-- The positions the reference gathers at. -/
def starts (x : FVec Ideal S16x2048x3 .f32) : IVec S16x2048x8x1 32 :=
  prepared (Host.topK S16x2048x8 2 (FloatOps.cmpfTotal .gt) (dists x) sliceFits_S16x2048x2048_S16x2048x8).2

/-- The gathered neighbours: point `pick x b n k` of the cloud. -/
theorem gathered (x : FVec Ideal S16x2048x3 .f32) (b : Fin 16) (n : Fin 2048) (k : Fin 8) (c : Fin 3) :
    Host.gather gather_S16x2048x3_S16x2048x8x1_S16x2048x8x3_3_1_0_0_1_3_113 x (starts x) (ix4 b n k c) = x (ix3 b (pick x b n k) c) := by
  rw [gather_apply]
  have e : (⟨min (starts x (ix4 b n k 0)).toInt.toNat 2047, by omega⟩ : Fin 2048) = pick x b n k :=
    Fin.ext (prepared_apply _ b n k _ (topK_index (dists x) b n k))
  rw [e]

end Cert.Neighbours

end
-- ==== Proof.RefValue.lean ====
/-
  The reference's two results read at an index.
-/
module

public import proofs.«01_k».proof.Proof.Neighbours

@[expose] public section

noncomputable section

namespace Cert.RefValue

open Idealize.ShloMosaic Cert.Gelu Cert.Spec Cert.Neighbours Cert.ReferenceIdeal Cert.ReferenceIdeal.Gen
open Cert.ReferenceIdeal.Facts Idealize.ShloMosaic.TcCoe Idealize.SL.Sem Idealize.ShloMosaic.StableHlo

/-- The GELU the reference applies to the encoder's rows, in its operations. -/
def geluRows (v : FVec Ideal S262144x128 .f32) : FVec Ideal S262144x128 .f32 :=
  mulf (mulf (broadcastInDim S262144x128 ![] bcast_S_S262144x128 (constant S_ .f32 0x3F000000#32)) v) (Host.erfc (Host.divf (Host.negf v) (broadcastInDim S262144x128 ![] bcast_S_S262144x128 (Host.sqrt (constant S_ .f32 0x40000000#32)))))

/-- The encoder's first layer. -/
def first (p : FVec Ideal S16x2048x8x3 .f32) (W : FVec Ideal S3x128 .f32) (B : FVec Ideal S128 .f32) : FVec Ideal S262144x128 .f32 :=
  addf (Host.dotGeneral dot_S262144x3_S3x128_S262144x128_1_0_0_1_n_n none (shapeCast _ p shapeCasts_S16x2048x8x3_S262144x3) W) (broadcastInDim S262144x128 ![0, 1] bcast_S1x128_S262144x128_0_1 (broadcastInDim S1x128 ![1] bcast_S128_S1x128_1 B))

/-- The encoder's later layers. -/
def layer (v : FVec Ideal S262144x128 .f32) (W : FVec Ideal S128x128 .f32) (B : FVec Ideal S128 .f32) : FVec Ideal S262144x128 .f32 :=
  addf (Host.dotGeneral dot_S262144x128_S128x128_S262144x128_1_0_0_1_n_n none (geluRows v) W) (broadcastInDim S262144x128 ![0, 1] bcast_S1x128_S262144x128_0_1 (broadcastInDim S1x128 ![1] bcast_S128_S1x128_1 B))

/-- The greatest over the neighbours and then over the points. -/
def pooled (v : FVec Ideal S262144x128 .f32) : FVec Ideal S16x128 .f32 :=
  Host.reduce FloatOps.maximumf (Host.reduce FloatOps.maximumf (shapeCast _ (geluRows v) shapeCasts_S262144x128_S16x2048x8x128) (constant S_ .f32 0xFF800000#32) reducesTo_S16x2048x8x128_S16x2048x128_d2 h_S_) (constant S_ .f32 0xFF800000#32) reducesTo_S16x2048x128_S16x128_d1 h_S_

/-- The GELU the reference applies to the decoder's rows. -/
def geluCodes (v : FVec Ideal S16x128 .f32) : FVec Ideal S16x128 .f32 :=
  mulf (mulf (broadcastInDim S16x128 ![] bcast_S_S16x128 (constant S_ .f32 0x3F000000#32)) v) (Host.erfc (Host.divf (Host.negf v) (broadcastInDim S16x128 ![] bcast_S_S16x128 (Host.sqrt (constant S_ .f32 0x40000000#32)))))

/-- A decoder layer. -/
def decLayer (v : FVec Ideal S16x128 .f32) (W : FVec Ideal S128x128 .f32) (B : FVec Ideal S128 .f32) : FVec Ideal S16x128 .f32 :=
  addf (Host.dotGeneral dot_S16x128_S128x128_S16x128_1_0_0_1_n_n none v W) (broadcastInDim S16x128 ![0, 1] bcast_S1x128_S16x128_0_1 (broadcastInDim S1x128 ![1] bcast_S128_S1x128_1 B))

/-- The decoder's last layer. -/
def last (v : FVec Ideal S16x128 .f32) (W : FVec Ideal S128x3000 .f32) (B : FVec Ideal S3000 .f32) : FVec Ideal S16x3000 .f32 :=
  addf (Host.dotGeneral dot_S16x128_S128x3000_S16x3000_1_0_0_1_n_n none v W) (broadcastInDim S16x3000 ![0, 1] bcast_S1x3000_S16x3000_0_1 (broadcastInDim S1x3000 ![1] bcast_S3000_S1x3000_1 B))

set_option maxRecDepth 16384

theorem geluRows_apply (v : FVec Ideal S262144x128 .f32) (r : Fin 262144) (j : Fin 128) : geluRows v (ix2 r j) = gelu (v (ix2 r j)) := by
  pointwise [geluRows]
  simp only [half_bits, two_bits, sqrt_two]
  exact gelu_eq_erfc _

theorem geluCodes_apply (v : FVec Ideal S16x128 .f32) (r : Fin 16) (j : Fin 128) : geluCodes v (ix2 r j) = gelu (v (ix2 r j)) := by
  pointwise [geluCodes]
  simp only [half_bits, two_bits, sqrt_two]
  exact gelu_eq_erfc _

/-- The row of neighbour `k` of point `n` of cloud `b`. -/
abbrev row (b : Fin 16) (n : Fin 2048) (k : Fin 8) : Fin 262144 := ⟨b.val * 16384 + n.val * 8 + k.val, by omega⟩

theorem first_apply (p : FVec Ideal S16x2048x8x3 .f32) (W : FVec Ideal S3x128 .f32) (B : FVec Ideal S128 .f32) (b : Fin 16) (n : Fin 2048)
    (k : Fin 8) (j : Fin 128) :
    first p W B (ix2 (row b n k) j) = affine (fun i l => W (ix2 i l)) (fun l => B (ix1 l)) (fun i => p (ix4 b n k i)) j := by
  pointwise [first]
  have h0 : (b.val * 16384 + n.val * 8 + k.val) / 16384 = b.val := by omega
  have h1 : (b.val * 16384 + n.val * 8 + k.val) / 8 % 2048 = n.val := by omega
  have h2 : (b.val * 16384 + n.val * 8 + k.val) % 8 = k.val := by omega
  simp only [h0, h1, h2]
  rfl

theorem layer_apply (v : FVec Ideal S262144x128 .f32) (W : FVec Ideal S128x128 .f32) (B : FVec Ideal S128 .f32) (r : Fin 262144) (j : Fin 128) :
    layer v W B (ix2 r j) = dense (fun i l => W (ix2 i l)) (fun l => B (ix1 l)) (fun i => v (ix2 r i)) j := by
  pointwise [layer]
  simp only [geluRows_apply]
  rfl

theorem pooled_apply (v : FVec Ideal S262144x128 .f32) (b : Fin 16) (j : Fin 128) :
    pooled v (ix2 b j) = Finset.univ.sup fun n : Fin 2048 => Finset.univ.sup fun k : Fin 8 => gelu (v (ix2 (row b n k) j)) := by
  pointwise [pooled]
  simp only [bot_bits, fold_max, geluRows_apply]

theorem decLayer_apply (v : FVec Ideal S16x128 .f32) (W : FVec Ideal S128x128 .f32) (B : FVec Ideal S128 .f32) (r : Fin 16) (j : Fin 128) :
    decLayer v W B (ix2 r j) = affine (fun i l => W (ix2 i l)) (fun l => B (ix1 l)) (fun i => v (ix2 r i)) j := by
  pointwise [decLayer]
  rfl

theorem last_apply (v : FVec Ideal S16x128 .f32) (W : FVec Ideal S128x3000 .f32) (B : FVec Ideal S3000 .f32) (r : Fin 16) (j : Fin 3000) :
    last v W B (ix2 r j) = affine (fun i l => W (ix2 i l)) (fun l => B (ix1 l)) (fun i => v (ix2 r i)) j := by
  pointwise [last]
  rfl

/-- A greatest value over points and their neighbours is the greatest over the points alone: every neighbour is a point, and every point
    is among its own neighbours. -/
theorem sup_neighbours (x : FVec Ideal S16x2048x3 .f32) (y : Fin 16 → Fin 2048 → Fin 3 → ℝ) (hy : ∀ b n k, x (ix3 b n k) = (y b n k : EReal))
    (b : Fin 16) (f : (Fin 3 → EReal) → EReal) :
    (Finset.univ.sup fun n : Fin 2048 => Finset.univ.sup fun k : Fin 8 => f fun c => x (ix3 b (pick x b n k) c))
      = Finset.univ.sup fun n : Fin 2048 => f fun c => x (ix3 b n c) := by
  refine le_antisymm (Finset.sup_le fun n _ => Finset.sup_le fun k _ => ?_) (Finset.sup_le fun n _ => ?_)
  · exact Finset.le_sup (f := fun n : Fin 2048 => f fun c => x (ix3 b n c)) (Finset.mem_univ (pick x b n k))
  · have e : (fun c => x (ix3 b (pick x b n 0) c)) = fun c => x (ix3 b n c) := funext fun c => pick_zero x y hy b n c
    have h1 : f (fun c => x (ix3 b n c)) ≤ Finset.univ.sup fun k : Fin 8 => f fun c => x (ix3 b (pick x b n k) c) := by
      rw [← e]
      exact Finset.le_sup (f := fun k : Fin 8 => f fun c => x (ix3 b (pick x b n k) c)) (Finset.mem_univ 0)
    exact h1.trans (Finset.le_sup (f := fun n : Fin 2048 => Finset.univ.sup fun k : Fin 8 => f fun c => x (ix3 b (pick x b n k) c)) (Finset.mem_univ n))

/-- The rows of the encoder before its last GELU. -/
def encoder (x : FVec Ideal S16x2048x3 .f32) (W1 : FVec Ideal S3x128 .f32) (B1 : FVec Ideal S128 .f32) (W2 : FVec Ideal S128x128 .f32)
    (B2 : FVec Ideal S128 .f32) (W3 : FVec Ideal S128x128 .f32) (B3 : FVec Ideal S128 .f32) : FVec Ideal S262144x128 .f32 :=
  layer (layer (first (Host.gather gather_S16x2048x3_S16x2048x8x1_S16x2048x8x3_3_1_0_0_1_3_113 x (starts x)) W1 B1) W2 B2) W3 B3

/-- The reference's codes: the greatest GELU of a feature over the points of a cloud. -/
theorem codes_apply (x : FVec Ideal S16x2048x3 .f32) (y : Fin 16 → Fin 2048 → Fin 3 → ℝ) (hy : ∀ b n k, x (ix3 b n k) = (y b n k : EReal))
    (W1 : FVec Ideal S3x128 .f32) (B1 : FVec Ideal S128 .f32) (W2 : FVec Ideal S128x128 .f32)
    (B2 : FVec Ideal S128 .f32) (W3 : FVec Ideal S128x128 .f32) (B3 : FVec Ideal S128 .f32) (b : Fin 16) (j : Fin 128) :
    pooled (encoder x W1 B1 W2 B2 W3 B3) (ix2 b j) = Finset.univ.sup fun n : Fin 2048 =>
      gelu (features (fun i k => W1 (ix2 i k)) (fun k => B1 (ix1 k)) (fun i k => W2 (ix2 i k)) (fun k => B2 (ix1 k))
          (fun i k => W3 (ix2 i k)) (fun k => B3 (ix1 k)) (fun c => x (ix3 b n c)) j) := by
  rw [pooled_apply]
  simp only [encoder, layer_apply, first_apply, gathered]
  exact sup_neighbours x y hy b fun p => gelu (features (fun i k => W1 (ix2 i k)) (fun k => B1 (ix1 k)) (fun i k => W2 (ix2 i k))
    (fun k => B2 (ix1 k)) (fun i k => W3 (ix2 i k)) (fun k => B3 (ix1 k)) p j)

/-- The reference's decoded rows. -/
def decoder (z : FVec Ideal S16x128 .f32) (W1 : FVec Ideal S128x128 .f32) (B1 : FVec Ideal S128 .f32) (W2 : FVec Ideal S128x128 .f32)
    (B2 : FVec Ideal S128 .f32) (W3 : FVec Ideal S128x3000 .f32) (B3 : FVec Ideal S3000 .f32) : FVec Ideal S16x3000 .f32 :=
  last (geluCodes (decLayer (geluCodes (decLayer z W1 B1)) W2 B2)) W3 B3

theorem decoder_apply (z : FVec Ideal S16x128 .f32) (W1 : FVec Ideal S128x128 .f32) (B1 : FVec Ideal S128 .f32) (W2 : FVec Ideal S128x128 .f32)
    (B2 : FVec Ideal S128 .f32) (W3 : FVec Ideal S128x3000 .f32) (B3 : FVec Ideal S3000 .f32) (b : Fin 16) (j : Fin 3000) :
    decoder z W1 B1 W2 B2 W3 B3 (ix2 b j) = decode (fun i k => W1 (ix2 i k)) (fun k => B1 (ix1 k)) (fun i k => W2 (ix2 i k))
      (fun k => B2 (ix1 k)) (fun i k => W3 (ix2 i k)) (fun k => B3 (ix1 k)) (fun i => z (ix2 b i)) j := by
  simp only [decoder, last_apply, geluCodes_apply, decLayer_apply]
  rfl

/-- The rows the run computes are these. -/
theorem v47_eq (V : Valuation τ sig (Elt Ideal)) : Value.res_main_v47 V
    = encoder (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) := rfl

theorem v74_eq (V : Valuation τ sig (Elt Ideal)) : Value.res_main_v74 V
    = decLayer (geluCodes (decLayer (pooled (Value.res_main_v47 V)) (V (Proc.devRef .tc main_arg7)) (V (Proc.devRef .tc main_arg8))))
        (V (Proc.devRef .tc main_arg9)) (V (Proc.devRef .tc main_arg10)) := rfl

/-- Running the reference leaves these two results and the arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v87) = shapeCast S16x1000x3 (decoder (pooled (encoder (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) shapeCasts_S16x3000_S16x1000x3
      ∧ r.2.mem ((c.tc : Thread nD τ).loc main_v58) = pooled (encoder (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) :=
  (θ_run defs _ _).mono (fun _ h c => ⟨(h c).1, (h c).2.1⟩) (Value.run (F := Ideal) m ρ)

end Cert.RefValue

end
-- ==== Proof.Equal.lean ====
/-
  On points with finite coordinates both results of the idealized kernel are the reference's.
-/
module

public import proofs.«01_k».proof.Defs
public import proofs.«01_k».proof.Proof.KernelCodes
public import proofs.«01_k».proof.Proof.RefValue

@[expose] public section

noncomputable section

namespace Cert.Equal

open Idealize.ShloMosaic Idealize.ShloMosaic.TcCoe Idealize.SL.Sem

/-- The side condition of the precondition's operations. -/
instance preFacts : Cert.Pre_finite_points.Facts := ⟨by decide⟩

/-- Where the precondition's comparison holds, every coordinate is a real number. -/
theorem finite (x : FVec Ideal Cert.ReferenceIdeal.S16x2048x3 .f32) (a1 a2 a3 a4 a5 a6 a7 a8 a9 a10 a11 a12)
    (h : Cert.Pre_finite_points.fn (F := Ideal) x a1 a2 a3 a4 a5 a6 a7 a8 a9 a10 a11 a12 = fun _ => 1#1) :
    ∃ y : Fin 16 → Fin 2048 → Fin 3 → ℝ, ∀ b n k, x (ix3 b n k) = (y b n k : EReal) := by
  refine ⟨fun b n k => (x (ix3 b n k)).toReal, fun b n k => ?_⟩
  have h' : Ideal.cmp .olt (max (x (ix3 b n k)) (-x (ix3 b n k))) (Ideal.ofBits .f32 0x7F800000#32) = 1#1 := congrFun h (ix3 b n k)
  rw [Cert.Spec.top_bits] at h'
  have hlt : max (x (ix3 b n k)) (-x (ix3 b n k)) < ⊤ := by
    by_contra hn
    have : Ideal.cmp .olt (max (x (ix3 b n k)) (-x (ix3 b n k))) ⊤ = 0#1 := by
      show BitVec.ofBool (decide _) = _
      rw [decide_eq_false hn]
      rfl
    rw [this] at h'
    exact absurd h' (by decide)
  rw [max_lt_iff] at hlt
  refine (EReal.coe_toReal hlt.1.ne fun hb => ?_).symm
  rw [hb] at hlt
  exact absurd hlt.2 (by simp)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.ReferenceIdeal in
/-- The reference's codes of the contents of its arguments. -/
abbrev refCodes (c : Dev nD) : FVec Ideal S16x128 .f32 :=
  RefValue.pooled (RefValue.encoder (m' ((c.tc : Thread nD τ).loc main_arg0)) (m' ((c.tc : Thread nD τ).loc main_arg1)) (m' ((c.tc : Thread nD τ).loc main_arg2))
    (m' ((c.tc : Thread nD τ).loc main_arg3)) (m' ((c.tc : Thread nD τ).loc main_arg4)) (m' ((c.tc : Thread nD τ).loc main_arg5)) (m' ((c.tc : Thread nD τ).loc main_arg6)))

open Cert.ReferenceIdeal in
/-- The reference's decoded rows of the contents of its arguments. -/
abbrev refDecoded (c : Dev nD) : FVec Ideal S16x3000 .f32 :=
  RefValue.decoder (refCodes m' c) (m' ((c.tc : Thread nD τ).loc main_arg7)) (m' ((c.tc : Thread nD τ).loc main_arg8)) (m' ((c.tc : Thread nD τ).loc main_arg9))
    (m' ((c.tc : Thread nD τ).loc main_arg10)) (m' ((c.tc : Thread nD τ).loc main_arg11)) (m' ((c.tc : Thread nD τ).loc main_arg12))

/-- The two memories agree on the arguments of device `c`. -/
abbrev Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

theorem codes_eq (hpre : Cert.Pre_KernelIdeal_finite_points m) (c : Dev Cert.KernelIdeal.nD) (h : Agree m m' c) :
    refCodes m' c = Cert.KernelIdeal.Body.codes m c := by
  obtain ⟨h0, h1, h2, h3, h4, h5, h6, -⟩ := h
  obtain ⟨y, hy⟩ := finite _ _ _ _ _ _ _ _ _ _ _ _ _ (hpre c)
  unfold refCodes
  rw [h0, h1, h2, h3, h4, h5, h6]
  funext j
  rw [eq_ix2 j]
  exact (RefValue.codes_apply _ y hy _ _ _ _ _ _ (j 0) (j 1)).trans (Cert.KernelIdeal.Read.codes_apply m c (j 0) (j 1)).symm

theorem decoded_eq (hpre : Cert.Pre_KernelIdeal_finite_points m) (c : Dev Cert.KernelIdeal.nD) (h : Agree m m' c) (t : Fin Cert.KernelIdeal.cfg0.N) :
    refDecoded m' c = Cert.KernelIdeal.Body.decoded m c t := by
  unfold refDecoded
  rw [codes_eq m m' hpre c h]
  obtain ⟨-, -, -, -, -, -, -, h7, h8, h9, h10, h11, h12⟩ := h
  rw [h7, h8, h9, h10, h11, h12]
  funext j
  rw [eq_ix2 j]
  exact (RefValue.decoder_apply _ _ _ _ _ _ _ (j 0) (j 1)).trans (Cert.KernelIdeal.Read.decoded_apply m c t (j 0) (j 1)).symm

end

/-- Both results of the idealized kernel are the reference's, on points with finite coordinates. -/
theorem algebraic : Cert.algebraic_KernelIdeal_ReferenceIdeal_pre_finite_points := fun m g m' g' hpre hagree =>
  ⟨fun c => shapeCast Cert.KernelIdeal.S16x1000x3 (Cert.KernelIdeal.Body.decoded m c Cert.KernelIdeal.Gen.t0_4) (by decide : Cert.KernelIdeal.S16x3000.ShapeCasts Cert.KernelIdeal.S16x1000x3),
    fun c => Cert.KernelIdeal.Body.codes m c,
    (θ_run Cert.KernelIdeal.defs _ _).mono (fun r h c => ⟨(h.1 c).2.2, (h.1 c).2.1, (h.1 c).1⟩) (Cert.KernelIdeal.Body.run_all (F := Ideal) m g),
    (θ_run Cert.ReferenceIdeal.defs _ _).mono (fun r h c =>
      ⟨(h c).1.trans (congrArg (fun v => shapeCast Cert.ReferenceIdeal.S16x1000x3 v (by decide : Cert.ReferenceIdeal.S16x3000.ShapeCasts Cert.ReferenceIdeal.S16x1000x3))
          (decoded_eq m m' hpre c (hagree c) Cert.KernelIdeal.Gen.t0_4)),
        (h c).2.1.trans (codes_eq m m' hpre c (hagree c)), (h c).2.2⟩) (Cert.ReferenceIdeal.Value.run (F := Ideal) m' g')⟩

end Cert.Equal

end
-- ==== Proof.lean ====
module

public import proofs.«01_k».proof.Defs
public import proofs.«01_k».proof.Proof.EndBits
public import proofs.«01_k».proof.Proof.EndIdeal
public import proofs.«01_k».proof.Proof.RefFrame
public import proofs.«01_k».proof.Proof.Equal

@[expose] public section

noncomputable section

namespace Cert.Proof

open Idealize.ShloMosaic Idealize.SL.Sem

theorem quiescent_bits : Cert.quiescent_Kernel := fun m g _ =>
  (θ_run Cert.Kernel.defs _ _).mono (fun r h => ⟨fun c => (h.1 c).1, h.2⟩) (Cert.Kernel.Body.run_all (F := Bits) m g)

theorem quiescent_ideal : Cert.quiescent_KernelIdeal := fun m g _ =>
  (θ_run Cert.KernelIdeal.defs _ _).mono (fun r h => ⟨fun c => (h.1 c).1, h.2⟩) (Cert.KernelIdeal.Body.run_all (F := Ideal) m g)

theorem preserves : Cert.preserves_Kernel_KernelIdeal :=
  IdealRules.named_const.statement Cert.KernelIdeal.κ "inv_sqrt_two" .f32 0x3F3504F3#32 (((Real.sqrt 2)⁻¹ : ℝ) : EReal) rfl

theorem claim : Cert.Claim := ⟨Cert.Kernel.Gen.facts, Cert.KernelIdeal.Gen.facts, Cert.ReferenceIdeal.Gen.facts, Equal.preFacts,
  quiescent_bits, quiescent_ideal, fun m g _ => quiescent_ideal m g trivial, RefFrame.quiescent, fun m g _ => RefFrame.quiescent m g trivial,
  preserves, Equal.algebraic⟩

end Cert.Proof

end
